-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![2048, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x2048 : Shape := ⟨2, ![256, 2048]⟩
abbrev S2048x2048 : Shape := ⟨2, ![2048, 2048]⟩
abbrev S2048x256 : Shape := ⟨2, ![2048, 256]⟩
abbrev S8x256x256 : Shape := ⟨3, ![8, 256, 256]⟩
abbrev S8 : Shape := ⟨1, ![8]⟩
abbrev S_ : Shape := ⟨0, ![]⟩
abbrev S256x256 : Shape := ⟨2, ![256, 256]⟩
abbrev S1x256x256 : Shape := ⟨3, ![1, 256, 256]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S2048x256, .bf16⟩
  | .local _ .vmem, ⟨0, _⟩ => ⟨S256x2048, .bf16⟩
  | .local _ .vmem, ⟨1, _⟩ => ⟨S2048x2048, .bf16⟩
  | .local _ .vmem, ⟨2, _⟩ => ⟨S2048x256, .bf16⟩
  | .local _ .vmem, ⟨3, _⟩ => ⟨S8x256x256, .bf16⟩
  | .local _ .vmem, ⟨4, _⟩ => ⟨S8x256x256, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c0_i32_65 : BitVec 32) : Fin 2 → Nat :=
  let c0_72 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v97 : BitVec 32 := Scalar.addi v2 c0_i32_65
  let c8_i32_66 : BitVec 32 := 8#32
  let c0_i32_67 : BitVec 32 := 0#32
  let v98 : BitVec 1 := Scalar.cmpi .eq c8_i32_66 c0_i32_67
  let c1_i32_68 : BitVec 32 := 1#32
  let v99 : BitVec 32 := Scalar.select v98 c1_i32_68 c8_i32_66
  let v100 : BitVec 32 := Scalar.remsi v97 v99
  let c0_i32_70 : BitVec 32 := 0#32
  let v102 : BitVec 1 := Scalar.cmpi .slt v100 c0_i32_70
  let c0_i32_71 : BitVec 32 := 0#32
  let v103 : BitVec 1 := Scalar.cmpi .slt v99 c0_i32_71
  let v104 : BitVec 1 := Scalar.xori v102 v103
  let c0_i32_69 : BitVec 32 := 0#32
  let v101 : BitVec 1 := Scalar.cmpi .ne v100 c0_i32_69
  let v105 : BitVec 1 := Scalar.andi v104 v101
  let v106 : BitVec 32 := Scalar.addi v100 v99
  let v107 : BitVec 32 := Scalar.select v105 v106 v100
  let c256_i32 : BitVec 32 := 256#32
  let v108 : BitVec 32 := Scalar.muli v107 c256_i32
  let v109 : Index := Scalar.indexCast v108
  ![0, v109.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_74 : BitVec 32 := 256#32
  let v116 : BitVec 32 := Scalar.muli v2 c256_i32_74
  let v117 : Index := Scalar.indexCast v116
  let c0_75 : Index := 0#32
  ![v117.toNat, 0]
def k0_dev8 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_76 : BitVec 32 := 1#32
  let v119 : BitVec 32 := Scalar.addi v2 c1_i32_76
  let c8_i32_77 : BitVec 32 := 8#32
  let c0_i32_78 : BitVec 32 := 0#32
  let v120 : BitVec 1 := Scalar.cmpi .eq c8_i32_77 c0_i32_78
  let c1_i32_79 : BitVec 32 := 1#32
  let v121 : BitVec 32 := Scalar.select v120 c1_i32_79 c8_i32_77
  let v122 : BitVec 32 := Scalar.remsi v119 v121
  let c0_i32_81 : BitVec 32 := 0#32
  let v124 : BitVec 1 := Scalar.cmpi .slt v122 c0_i32_81
  let c0_i32_82 : BitVec 32 := 0#32
  let v125 : BitVec 1 := Scalar.cmpi .slt v121 c0_i32_82
  let v126 : BitVec 1 := Scalar.xori v124 v125
  let c0_i32_80 : BitVec 32 := 0#32
  let v123 : BitVec 1 := Scalar.cmpi .ne v122 c0_i32_80
  let v127 : BitVec 1 := Scalar.andi v126 v123
  let v128 : BitVec 32 := Scalar.addi v122 v121
  let v129 : BitVec 32 := Scalar.select v127 v128 v122
  let c1_i32_93 : BitVec 32 := 1#32
  let v141 : BitVec 32 := Scalar.muli v129 c1_i32_93
  let v142 : BitVec 32 := Scalar.addi c0_i32_94 v141
  v142.toNat
def k0_dev9 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_99 : BitVec 32 := 2#32
  let v151 : BitVec 32 := Scalar.addi v2 c2_i32_99
  let c8_i32_100 : BitVec 32 := 8#32
  let c0_i32_101 : BitVec 32 := 0#32
  let v152 : BitVec 1 := Scalar.cmpi .eq c8_i32_100 c0_i32_101
  let c1_i32_102 : BitVec 32 := 1#32
  let v153 : BitVec 32 := Scalar.select v152 c1_i32_102 c8_i32_100
  let v154 : BitVec 32 := Scalar.remsi v151 v153
  let c0_i32_104 : BitVec 32 := 0#32
  let v156 : BitVec 1 := Scalar.cmpi .slt v154 c0_i32_104
  let c0_i32_105 : BitVec 32 := 0#32
  let v157 : BitVec 1 := Scalar.cmpi .slt v153 c0_i32_105
  let v158 : BitVec 1 := Scalar.xori v156 v157
  let c0_i32_103 : BitVec 32 := 0#32
  let v155 : BitVec 1 := Scalar.cmpi .ne v154 c0_i32_103
  let v159 : BitVec 1 := Scalar.andi v158 v155
  let v160 : BitVec 32 := Scalar.addi v154 v153
  let v161 : BitVec 32 := Scalar.select v159 v160 v154
  let c1_i32_116 : BitVec 32 := 1#32
  let v173 : BitVec 32 := Scalar.muli v161 c1_i32_116
  let v174 : BitVec 32 := Scalar.addi c0_i32_117 v173
  v174.toNat
def k0_dev10 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_122 : BitVec 32 := 3#32
  let v183 : BitVec 32 := Scalar.addi v2 c3_i32_122
  let c8_i32_123 : BitVec 32 := 8#32
  let c0_i32_124 : BitVec 32 := 0#32
  let v184 : BitVec 1 := Scalar.cmpi .eq c8_i32_123 c0_i32_124
  let c1_i32_125 : BitVec 32 := 1#32
  let v185 : BitVec 32 := Scalar.select v184 c1_i32_125 c8_i32_123
  let v186 : BitVec 32 := Scalar.remsi v183 v185
  let c0_i32_127 : BitVec 32 := 0#32
  let v188 : BitVec 1 := Scalar.cmpi .slt v186 c0_i32_127
  let c0_i32_128 : BitVec 32 := 0#32
  let v189 : BitVec 1 := Scalar.cmpi .slt v185 c0_i32_128
  let v190 : BitVec 1 := Scalar.xori v188 v189
  let c0_i32_126 : BitVec 32 := 0#32
  let v187 : BitVec 1 := Scalar.cmpi .ne v186 c0_i32_126
  let v191 : BitVec 1 := Scalar.andi v190 v187
  let v192 : BitVec 32 := Scalar.addi v186 v185
  let v193 : BitVec 32 := Scalar.select v191 v192 v186
  let c1_i32_139 : BitVec 32 := 1#32
  let v205 : BitVec 32 := Scalar.muli v193 c1_i32_139
  let v206 : BitVec 32 := Scalar.addi c0_i32_140 v205
  v206.toNat
def k0_dev11 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_145 : BitVec 32 := 4#32
  let v215 : BitVec 32 := Scalar.addi v2 c4_i32_145
  let c8_i32_146 : BitVec 32 := 8#32
  let c0_i32_147 : BitVec 32 := 0#32
  let v216 : BitVec 1 := Scalar.cmpi .eq c8_i32_146 c0_i32_147
  let c1_i32_148 : BitVec 32 := 1#32
  let v217 : BitVec 32 := Scalar.select v216 c1_i32_148 c8_i32_146
  let v218 : BitVec 32 := Scalar.remsi v215 v217
  let c0_i32_150 : BitVec 32 := 0#32
  let v220 : BitVec 1 := Scalar.cmpi .slt v218 c0_i32_150
  let c0_i32_151 : BitVec 32 := 0#32
  let v221 : BitVec 1 := Scalar.cmpi .slt v217 c0_i32_151
  let v222 : BitVec 1 := Scalar.xori v220 v221
  let c0_i32_149 : BitVec 32 := 0#32
  let v219 : BitVec 1 := Scalar.cmpi .ne v218 c0_i32_149
  let v223 : BitVec 1 := Scalar.andi v222 v219
  let v224 : BitVec 32 := Scalar.addi v218 v217
  let v225 : BitVec 32 := Scalar.select v223 v224 v218
  let c1_i32_162 : BitVec 32 := 1#32
  let v237 : BitVec 32 := Scalar.muli v225 c1_i32_162
  let v238 : BitVec 32 := Scalar.addi c0_i32_163 v237
  v238.toNat
def k0_dev12 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_168 : BitVec 32 := 5#32
  let v247 : BitVec 32 := Scalar.addi v2 c5_i32_168
  let c8_i32_169 : BitVec 32 := 8#32
  let c0_i32_170 : BitVec 32 := 0#32
  let v248 : BitVec 1 := Scalar.cmpi .eq c8_i32_169 c0_i32_170
  let c1_i32_171 : BitVec 32 := 1#32
  let v249 : BitVec 32 := Scalar.select v248 c1_i32_171 c8_i32_169
  let v250 : BitVec 32 := Scalar.remsi v247 v249
  let c0_i32_173 : BitVec 32 := 0#32
  let v252 : BitVec 1 := Scalar.cmpi .slt v250 c0_i32_173
  let c0_i32_174 : BitVec 32 := 0#32
  let v253 : BitVec 1 := Scalar.cmpi .slt v249 c0_i32_174
  let v254 : BitVec 1 := Scalar.xori v252 v253
  let c0_i32_172 : BitVec 32 := 0#32
  let v251 : BitVec 1 := Scalar.cmpi .ne v250 c0_i32_172
  let v255 : BitVec 1 := Scalar.andi v254 v251
  let v256 : BitVec 32 := Scalar.addi v250 v249
  let v257 : BitVec 32 := Scalar.select v255 v256 v250
  let c1_i32_185 : BitVec 32 := 1#32
  let v269 : BitVec 32 := Scalar.muli v257 c1_i32_185
  let v270 : BitVec 32 := Scalar.addi c0_i32_186 v269
  v270.toNat
def k0_dev13 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_191 : BitVec 32 := 6#32
  let v279 : BitVec 32 := Scalar.addi v2 c6_i32_191
  let c8_i32_192 : BitVec 32 := 8#32
  let c0_i32_193 : BitVec 32 := 0#32
  let v280 : BitVec 1 := Scalar.cmpi .eq c8_i32_192 c0_i32_193
  let c1_i32_194 : BitVec 32 := 1#32
  let v281 : BitVec 32 := Scalar.select v280 c1_i32_194 c8_i32_192
  let v282 : BitVec 32 := Scalar.remsi v279 v281
  let c0_i32_196 : BitVec 32 := 0#32
  let v284 : BitVec 1 := Scalar.cmpi .slt v282 c0_i32_196
  let c0_i32_197 : BitVec 32 := 0#32
  let v285 : BitVec 1 := Scalar.cmpi .slt v281 c0_i32_197
  let v286 : BitVec 1 := Scalar.xori v284 v285
  let c0_i32_195 : BitVec 32 := 0#32
  let v283 : BitVec 1 := Scalar.cmpi .ne v282 c0_i32_195
  let v287 : BitVec 1 := Scalar.andi v286 v283
  let v288 : BitVec 32 := Scalar.addi v282 v281
  let v289 : BitVec 32 := Scalar.select v287 v288 v282
  let c1_i32_208 : BitVec 32 := 1#32
  let v301 : BitVec 32 := Scalar.muli v289 c1_i32_208
  let v302 : BitVec 32 := Scalar.addi c0_i32_209 v301
  v302.toNat
def k0_dev14 (d0 : Dev nD) : Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_214 : BitVec 32 := 7#32
  let v311 : BitVec 32 := Scalar.addi v2 c7_i32_214
  let c8_i32_215 : BitVec 32 := 8#32
  let c0_i32_216 : BitVec 32 := 0#32
  let v312 : BitVec 1 := Scalar.cmpi .eq c8_i32_215 c0_i32_216
  let c1_i32_217 : BitVec 32 := 1#32
  let v313 : BitVec 32 := Scalar.select v312 c1_i32_217 c8_i32_215
  let v314 : BitVec 32 := Scalar.remsi v311 v313
  let c0_i32_219 : BitVec 32 := 0#32
  let v316 : BitVec 1 := Scalar.cmpi .slt v314 c0_i32_219
  let c0_i32_220 : BitVec 32 := 0#32
  let v317 : BitVec 1 := Scalar.cmpi .slt v313 c0_i32_220
  let v318 : BitVec 1 := Scalar.xori v316 v317
  let c0_i32_218 : BitVec 32 := 0#32
  let v315 : BitVec 1 := Scalar.cmpi .ne v314 c0_i32_218
  let v319 : BitVec 1 := Scalar.andi v318 v315
  let v320 : BitVec 32 := Scalar.addi v314 v313
  let v321 : BitVec 32 := Scalar.select v319 v320 v314
  let c1_i32_231 : BitVec 32 := 1#32
  let v333 : BitVec 32 := Scalar.muli v321 c1_i32_231
  let v334 : BitVec 32 := Scalar.addi c0_i32_232 v333
  v334.toNat
def k0_off3 (d0 : Dev nD) (c1_i32_237 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v343 : BitVec 32 := Scalar.subi v2 c1_i32_237
  let c8_i32_238 : BitVec 32 := 8#32
  let c0_i32_239 : BitVec 32 := 0#32
  let v344 : BitVec 1 := Scalar.cmpi .eq c8_i32_238 c0_i32_239
  let c1_i32_240 : BitVec 32 := 1#32
  let v345 : BitVec 32 := Scalar.select v344 c1_i32_240 c8_i32_238
  let v346 : BitVec 32 := Scalar.remsi v343 v345
  let c0_i32_242 : BitVec 32 := 0#32
  let v348 : BitVec 1 := Scalar.cmpi .slt v346 c0_i32_242
  let c0_i32_243 : BitVec 32 := 0#32
  let v349 : BitVec 1 := Scalar.cmpi .slt v345 c0_i32_243
  let v350 : BitVec 1 := Scalar.xori v348 v349
  let c0_i32_241 : BitVec 32 := 0#32
  let v347 : BitVec 1 := Scalar.cmpi .ne v346 c0_i32_241
  let v351 : BitVec 1 := Scalar.andi v350 v347
  let v352 : BitVec 32 := Scalar.addi v346 v345
  let v353 : BitVec 32 := Scalar.select v351 v352 v346
  let c256_i32_257 : BitVec 32 := 256#32
  let v364 : BitVec 32 := Scalar.muli v353 c256_i32_257
  let v365 : Index := Scalar.indexCast v364
  let c0_258 : Index := 0#32
  ![v365.toNat, 0]
abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Mesh.lean ====
/-
# The mesh of eight devices, the buffer slots and the semaphores of the exchange

Every device of the mesh exchanges one block with each of the seven others. The `k`-th exchange
(`k = 0, …, 6`) of device `c` sends to the device `k + 1` places after it, and uses slot `k + 1` of the
send buffer, slot `k + 1` of the receive buffer, and entry `k + 1` of the two semaphore arrays.

This module names those devices, slots and semaphores, and evaluates the printed index arithmetic.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic

@[expose] public section

noncomputable section

namespace Cert.Exchange

open Cert.KernelIdeal Cert.KernelIdeal.Gen
open Idealize.ShloMosaic Idealize.ShloMosaic.TcCoe Idealize.SL.Sem

/-! ## Partners -/

set_option backward.proofsInPublic true in
/-- The device that `c` sends to in exchange `k`: `k + 1` places after `c`. -/
def dst (c : Dev nD) (k : Fin 7) : Dev nD := ⟨(c.val + k.val + 1) % 8, Nat.mod_lt _ (by decide)⟩
set_option backward.proofsInPublic true in
/-- The device that `c` receives from in exchange `k`: `k + 1` places before `c`. -/
def src (c : Dev nD) (k : Fin 7) : Dev nD := ⟨(c.val + 7 - k.val) % 8, Nat.mod_lt _ (by decide)⟩
set_option backward.proofsInPublic true in
/-- The exchange in which the receiver of exchange `k` sends back. -/
def opp (k : Fin 7) : Fin 7 := ⟨6 - k.val, by omega⟩

theorem src_dst (c : Dev nD) (k : Fin 7) : src (dst c k) k = c := by revert c k; decide
theorem dst_src (c : Dev nD) (k : Fin 7) : dst (src c k) k = c := by revert c k; decide
theorem dst_opp (c : Dev nD) (k : Fin 7) : dst (dst c k) (opp k) = c := by revert c k; decide
theorem opp_opp (k : Fin 7) : opp (opp k) = k := by revert k; decide
theorem dst_val (c : Dev nD) (k : Fin 7) : (dst c k).val = (c.val + k.val + 1) % 8 := rfl

/-- Sender and exchange against receiver and exchange: a bijection. -/
def sendPair : Dev nD × Fin 7 ≃ Dev nD × Fin 7 :=
  ⟨fun p => (dst p.1 p.2, p.2), fun p => (src p.1 p.2, p.2), fun p => by simp [src_dst], fun p => by simp [dst_src]⟩
/-- Device and exchange against the partner and the exchange that leads back: a bijection, its own inverse. -/
def backPair : Dev nD × Fin 7 ≃ Dev nD × Fin 7 :=
  ⟨fun p => (dst p.1 p.2, opp p.2), fun p => (dst p.1 p.2, opp p.2), fun p => by simp [dst_opp, opp_opp], fun p => by simp [dst_opp, opp_opp]⟩

/-! ## The printed device numbers and offsets -/

theorem sig1_eq (c : Dev nD) : (⟨k0_dev1 c, k0_dev1_lt c⟩ : Dev nD) = dst c 0 := by revert c; decide +kernel
theorem sig2_eq (c : Dev nD) : (⟨k0_dev2 c, k0_dev2_lt c⟩ : Dev nD) = dst c 1 := by revert c; decide +kernel
theorem sig3_eq (c : Dev nD) : (⟨k0_dev3 c, k0_dev3_lt c⟩ : Dev nD) = dst c 2 := by revert c; decide +kernel
theorem sig4_eq (c : Dev nD) : (⟨k0_dev4 c, k0_dev4_lt c⟩ : Dev nD) = dst c 3 := by revert c; decide +kernel
theorem sig5_eq (c : Dev nD) : (⟨k0_dev5 c, k0_dev5_lt c⟩ : Dev nD) = dst c 4 := by revert c; decide +kernel
theorem sig6_eq (c : Dev nD) : (⟨k0_dev6 c, k0_dev6_lt c⟩ : Dev nD) = dst c 5 := by revert c; decide +kernel
theorem sig7_eq (c : Dev nD) : (⟨k0_dev7 c, k0_dev7_lt c⟩ : Dev nD) = dst c 6 := by revert c; decide +kernel
theorem send1_eq (c : Dev nD) : (⟨k0_dev8 c, k0_dev8_lt c⟩ : Dev nD) = dst c 0 := by revert c; decide +kernel
theorem send2_eq (c : Dev nD) : (⟨k0_dev9 c, k0_dev9_lt c⟩ : Dev nD) = dst c 1 := by revert c; decide +kernel
theorem send3_eq (c : Dev nD) : (⟨k0_dev10 c, k0_dev10_lt c⟩ : Dev nD) = dst c 2 := by revert c; decide +kernel
theorem send4_eq (c : Dev nD) : (⟨k0_dev11 c, k0_dev11_lt c⟩ : Dev nD) = dst c 3 := by revert c; decide +kernel
theorem send5_eq (c : Dev nD) : (⟨k0_dev12 c, k0_dev12_lt c⟩ : Dev nD) = dst c 4 := by revert c; decide +kernel
theorem send6_eq (c : Dev nD) : (⟨k0_dev13 c, k0_dev13_lt c⟩ : Dev nD) = dst c 5 := by revert c; decide +kernel
theorem send7_eq (c : Dev nD) : (⟨k0_dev14 c, k0_dev14_lt c⟩ : Dev nD) = dst c 6 := by revert c; decide +kernel

/-- The own block's columns of the weights start at `256` times the device's number. -/
theorem off1_own (c : Dev nD) : k0_off1 c 0#32 = ![0, 256 * c.val] := by revert c; decide +kernel
/-- The columns read for exchange `k` start at `256` times the receiver's number. -/
theorem off1_dst (c : Dev nD) (k : Fin 7) : k0_off1 c (BitVec.ofNat 32 (k.val + 1)) = ![0, 256 * (dst c k).val] := by
  revert c k; decide +kernel
/-- The rows stored for exchange `k` start at `256` times the sender's number. -/
theorem off3_src (c : Dev nD) (k : Fin 7) : k0_off3 c (BitVec.ofNat 32 (k.val + 1)) = ![256 * (src c k).val, 0] := by
  revert c k; decide +kernel

/-! ## Slots and semaphores -/

theorem slot_inb (k : Fin 7) : ∀ a, (![k.val + 1, 0, 0] : Fin 3 → ℕ) a + S1x256x256.size a ≤ S8x256x256.size a := by
  revert k; decide
theorem entry_inb (k : Fin 7) : ∀ a, (![k.val + 1] : Fin 1 → ℕ) a + S1.size a ≤ S8.size a := by revert k; decide

/-- Slot `k + 1` of an eight-slot buffer. -/
abbrev slotR (k : Fin 7) : Rect S8x256x256 := Rect.unit (s := S8x256x256) ![k.val + 1, 0, 0] S1x256x256.size (slot_inb k)
/-- The slot of the send buffer that exchange `k` sends from, as a 256 × 256 block. -/
abbrev sendM (k : Fin 7) : Memref sig .tc .vmem S256x256 .bf16 :=
  ((Memref.whole cc0_scratch0).slice (slotR k) (fun _ => rfl)).squeeze S256x256 squeezes_S1x256x256_S256x256
/-- The slot of the receive buffer that exchange `k` sends into, as a 256 × 256 block. -/
abbrev recvM (k : Fin 7) : Memref sig .tc .vmem S256x256 .bf16 :=
  ((Memref.whole cc0_scratch1).slice (slotR k) (fun _ => rfl)).squeeze S256x256 squeezes_S1x256x256_S256x256
/-- The semaphore counting what exchange `k` has read from the send slot. -/
abbrev sendS (k : Fin 7) : DmaSem sig :=
  ((cc0_scratch2.slice (Rect.unit (s := S8) ![k.val + 1] S1.size (entry_inb k))).squeeze S_ squeezes_S1_S_).sem
/-- The semaphore counting what exchange `k` has written into the receive slot. -/
abbrev recvS (k : Fin 7) : DmaSem sig :=
  ((cc0_scratch3.slice (Rect.unit (s := S8) ![k.val + 1] S1.size (entry_inb k))).squeeze S_ squeezes_S1_S_).sem
/-- The barrier semaphore. -/
abbrev barS : Sem sig := (SemArray.scalar (sig.barrier 0 rfl) : Sems sig S_).sem

theorem sendS_val (k : Fin 7) : (sendS k).val = 4 + k.val := by revert k; decide +kernel
theorem recvS_val (k : Fin 7) : (recvS k).val = 12 + k.val := by revert k; decide +kernel

abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))

/-- What a copy of one block adds to a semaphore. -/
abbrev N : ℕ := (recvM 0).view.dmaCredit
theorem N_pos : 0 < N := View.dmaCredit_pos _ (by decide)
theorem amount_recvM (k : Fin 7) : (recvM k).view.amount (.dma (recvS k)) = N := rfl
theorem credit_recvM (k : Fin 7) : (recvM k).view.dmaCredit = N := rfl
theorem credit_sendM (k : Fin 7) : (sendM k).view.dmaCredit = N := rfl

/-- The elements of a send slot are the elements of that slot of the buffer. -/
theorem sendM_set (k : Fin 7) : (sendM k).view.set = ((View.whole cc0_scratch0).slice (slotR k)).set := View.set_reshape _ _
theorem recvM_set (k : Fin 7) : (recvM k).view.set = ((View.whole cc0_scratch1).slice (slotR k)).set := View.set_reshape _ _

end Cert.Exchange
-- ==== Proof.Blocks.lean ====
/-
# The blocks that the devices compute and exchange

`blk s p` is the block that device `s` computes for device `p`: the rows of `x` that `s` holds times the
`p`-th 256 columns of the weights, with the negative entries replaced by zero, at the width of the result.
The result `outAt c` of device `c` has the block `blk s c` in its `s`-th 256 rows. This module states what
stores and copies of such blocks leave in the buffers.
-/
module

public import proofs.«01_k».proof.Proof.Mesh
public import Idealize.ShloMosaic.Lib.ValueIdxCore
public import Idealize.ShloMosaic.Lib.ValueLayout
public import Idealize.ShloMosaic.Lib.Pipeline.Value
public import Idealize.ShloMosaic.Lib.ViewIndex

@[expose] public section

noncomputable section

namespace Cert.Exchange

open Cert.KernelIdeal Cert.KernelIdeal.Gen
open Idealize.ShloMosaic Idealize.ShloMosaic.TcCoe Idealize.SL.Sem
open Idealize.ShloMosaic.ValueIdx

variable {F : FTy → Type} [FloatOps F]
variable (m : (ℓ : Loc nD τ sig) → Buf (Elt F) ℓ)

/-! ## What a device reads and computes -/

/-- The rows of `x` that device `c` holds, as the kernel finds them in its memory. -/
def xstg (c : Dev nD) : (cc0_stg0_0 : Ref sig .tc).ty.Contents (Elt F) :=
  (win0_0.blk (0 : Fin 1)).view.read (Elt F) (m ((c : Thread nD τ).loc main_arg0))
/-- The weights that device `c` holds, as the kernel finds them in its memory. -/
def wstg (c : Dev nD) : (cc0_stg1_0 : Ref sig .tc).ty.Contents (Elt F) :=
  (win0_1.blk (0 : Fin 1)).view.read (Elt F) (m ((c : Thread nD τ).loc main_arg1))

theorem zero_off : (![0, 0] : Fin 2 → ℕ) = fun _ => 0 := funext fun a => by fin_cases a <;> rfl

theorem cols_inb (p : Dev nD) : ∀ a, (![0, 256 * p.val] : Fin 2 → ℕ) a + S2048x256.size a ≤ S2048x2048.size a := by
  revert p; decide

/-- The `p`-th 256 columns of an array of weights. -/
def cols (w : (cc0_stg1_0 : Ref sig .tc).ty.Contents (Elt F)) (p : Dev nD) : Vec F S2048x256 .bf16 :=
  (Memref.whole cc0_stg1_0).view.readAt (Elt F) (Rect.unit (s := S2048x2048) ![0, 256 * p.val] S2048x256.size (cols_inb p)).toLoadRect w

/-- The block that device `s` computes for device `p`. -/
def blk (s p : Dev nD) : FVec F S256x256 .bf16 := k0_pay2 (xstg m s) (cols (wstg m s) p)

/-! ## The result, filled a block at a time -/

set_option backward.proofsInPublic true in
/-- The device whose block a row of the result belongs to. -/
def rowDev (i : S2048x256.Idx) : Dev nD := ⟨(i 0).val / 256, by
  have h : (i 0).val < 2048 := (i 0).isLt
  show (i 0).val / 256 < 8
  omega⟩

set_option backward.proofsInPublic true in
/-- The place of an entry of the result within its block. -/
def rowIn (i : S2048x256.Idx) : S256x256.Idx :=
  ix2 (n0 := 256) (n1 := 256) ⟨(i 0).val % 256, Nat.mod_lt _ (by decide)⟩ (i 1)

/-- Device `c`'s result: in its `s`-th 256 rows, the block that device `s` computes for `c`. -/
def outAt (c : Dev nD) : (cc0_stg2_0 : Ref sig .tc).ty.Contents (Elt F) := fun i => blk m (rowDev i) c (rowIn i)

/-- When device `c` stores the block of device `s`: its own first, then that of the device before it, and so on. -/
def turn (c s : Dev nD) : ℕ := (c.val + 8 - s.val) % 8

theorem turn_self (c : Dev nD) : turn c c = 0 := by revert c; decide
theorem turn_src (c : Dev nD) (k : Fin 7) : turn c (src c k) = k.val + 1 := by revert c k; decide
theorem turn_lt (c s : Dev nD) : turn c s < 8 := Nat.mod_lt _ (by decide)
theorem turn_inj (c s s' : Dev nD) (h : turn c s = turn c s') : s = s' := by revert c s s'; decide

/-- The result buffer after `n` blocks have been stored, from contents `f`. -/
def fill (c : Dev nD) (n : ℕ) (f : (cc0_stg2_0 : Ref sig .tc).ty.Contents (Elt F)) : (cc0_stg2_0 : Ref sig .tc).ty.Contents (Elt F) :=
  fun i => if turn c (rowDev i) < n then outAt m c i else f i

theorem fill_zero (c : Dev nD) (f) : fill m c 0 f = f := funext fun i => if_neg (Nat.not_lt_zero _)
theorem fill_all (c : Dev nD) (f) : fill m c 8 f = outAt m c := funext fun i => if_pos (turn_lt _ _)

/-- Storing the block of device `s` when it is its turn fills in one more block. -/
theorem fill_store (c s : Dev nD) (n : ℕ) (hn : turn c s = n) (f) {o : Fin 2 → ℕ} (ho : o = ![256 * s.val, 0])
    (inb : ∀ a, o a + S256x256.size a ≤ S2048x256.size a) :
    ((Memref.whole cc0_stg2_0).access (Rect.unit (s := S2048x256) o S256x256.size inb)).write (Elt F) (fill m c n f) (blk m s c) Finset.univ
      = fill m c (n + 1) f := by
  subst ho
  subst hn
  funext i
  have hi0 : (i 0).val < 2048 := (i 0).isLt
  have hi1 : (i 1).val < 256 := (i 1).isLt
  by_cases h : rowDev i = s
  · have he : ((Memref.whole cc0_stg2_0).access (Rect.unit (s := S2048x256) ![256 * s.val, 0] S256x256.size inb)).emb (rowIn i) = i := by
      funext a
      apply Fin.ext
      have hs : (i 0).val / 256 = s.val := congrArg Fin.val h
      match a with
      | ⟨0, _⟩ =>
        show 256 * s.val + 1 * ((i 0).val % 256) = (i 0).val
        omega
      | ⟨1, _⟩ =>
        show 0 + 1 * (i 1).val = (i 1).val
        omega
    have hw := View.write_emb_of_mem (v := (Memref.whole cc0_stg2_0).access (Rect.unit (s := S2048x256) ![256 * s.val, 0] S256x256.size inb))
      (Val := Elt F) (fill m c (turn c s) f) (blk m s c) (M := Finset.univ) (x := rowIn i) (Finset.mem_univ _)
    rw [he] at hw
    rw [hw]
    unfold fill outAt
    rw [h, if_pos (Nat.lt_succ_self _)]
    rfl
  · rw [View.write_of_not_mem]
    · unfold fill
      have hne : turn c (rowDev i) ≠ turn c s := fun e => h (turn_inj c _ _ e)
      by_cases hl : turn c (rowDev i) < turn c s
      · rw [if_pos hl, if_pos (by omega)]
      · rw [if_neg hl, if_neg (by omega)]
    · intro hm
      apply h
      have hm' : i ∈ (Rect.unit (s := S2048x256) ![256 * s.val, 0] S256x256.size inb).set := by
        rw [← View.set_slice_whole cc0_stg2_0]; exact hm
      have h0 := (Rect.mem_set_unit.mp hm') 0
      have hlo : 256 * s.val ≤ (i 0).val := h0.1
      have hhi : (i 0).val < 256 * s.val + 256 := h0.2
      apply Fin.ext
      show (i 0).val / 256 = s.val
      omega

/-! ## The slots of the two exchange buffers -/

/-- Adding a leading axis of length one and dropping it again changes nothing. -/
theorem drop_add (z : FVec F S256x256 .bf16) :
    shapeCast S256x256 (shapeCast S1x256x256 z shapeCasts_S256x256_S1x256x256) shapeCasts_S1x256x256_S256x256 = z := by
  funext i
  rw [eq_ix2 (n0 := 256) (n1 := 256) i]
  exact (shapeCast_1ab_ab_apply (shapeCast S1x256x256 z shapeCasts_S256x256_S1x256x256) shapeCasts_S1x256x256_S256x256 (i 0) (i 1)).trans
    (shapeCast_ab_1ab_apply z shapeCasts_S256x256_S1x256x256 0 (i 0) (i 1))

/-- A block stored into a send slot is what the slot then holds. -/
theorem read_stored (k : Fin 7) (f : (cc0_scratch0 : Ref sig .tc).ty.Contents (Elt F)) (z : FVec F S256x256 .bf16) :
    (sendM k).view.read (Elt F)
      (((Memref.whole cc0_scratch0).access (slotR k)).write (Elt F) f (shapeCast S1x256x256 z shapeCasts_S256x256_S1x256x256) Finset.univ) = z := by
  have h : (sendM k).view.read (Elt F)
      (((Memref.whole cc0_scratch0).access (slotR k)).write (Elt F) f (shapeCast S1x256x256 z shapeCasts_S256x256_S1x256x256) Finset.univ)
      = shapeCast S256x256 (((Memref.whole cc0_scratch0).access (slotR k)).read (Elt F)
          (((Memref.whole cc0_scratch0).access (slotR k)).write (Elt F) f (shapeCast S1x256x256 z shapeCasts_S256x256_S1x256x256) Finset.univ))
          shapeCasts_S1x256x256_S256x256 := rfl
  rw [h, View.read_write_univ, drop_add]

/-- A load of a receive slot, its leading axis dropped, is what the slot holds. -/
theorem read_slot (k : Fin 7) (f : (cc0_scratch1 : Ref sig .tc).ty.Contents (Elt F)) :
    shapeCast S256x256 ((Memref.whole cc0_scratch1).view.readAt (Elt F) (slotR k).toLoadRect f) shapeCasts_S1x256x256_S256x256
      = (recvM k).view.read (Elt F) f := rfl

/-- Different exchanges use disjoint slots. -/
theorem slot_disjoint (k k' : Fin 7) (h : k ≠ k') : Disjoint (slotR k).set (slotR k').set := by
  rw [Finset.disjoint_left]
  intro i hi hi'
  have h0 := (Rect.mem_set_unit.mp hi) 0
  have h0' := (Rect.mem_set_unit.mp hi') 0
  have e1 : k.val + 1 ≤ (i 0).val := h0.1
  have e2 : (i 0).val < k.val + 1 + 1 := h0.2
  have e3 : k'.val + 1 ≤ (i 0).val := h0'.1
  have e4 : (i 0).val < k'.val + 1 + 1 := h0'.2
  exact h (Fin.ext (by omega))

theorem sendM_disjoint (k k' : Fin 7) (h : k ≠ k') : Disjoint (sendM k).view.set (sendM k').view.set := by
  rw [sendM_set, sendM_set, View.set_slice_whole, View.set_slice_whole]; exact slot_disjoint k k' h
theorem recvM_disjoint (k k' : Fin 7) (h : k ≠ k') : Disjoint (recvM k).view.set (recvM k').view.set := by
  rw [recvM_set, recvM_set, View.set_slice_whole, View.set_slice_whole]; exact slot_disjoint k k' h

end Cert.Exchange
-- ==== Proof.Cells.lean ====
/-
# The semaphores' schedule

Each semaphore of the exchange is used for one round.

* A device's barrier semaphore receives one unit from each of the seven other devices. The unit of the device
  that it sends to in exchange `k` comes with that device's receive slot for exchange `k`.
* A device's receive semaphore for exchange `k` receives one block, which comes with the receive slot holding
  the sender's block.
* A device's send semaphore for exchange `k` receives one block, which comes with the send slot.

This module states that schedule, what a device owes to others as it proceeds, and the order of the
semaphores that shows that no device waits for ever.
-/
module

public import proofs.«01_k».proof.Proof.Blocks
public import Idealize.ShloMosaic.Lib.Pipeline.Launch
public import Idealize.ShloMosaic.Lib.Pipeline.Kit

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-! ## The resources -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Device `c` holds its send slot for exchange `k`, with contents `f`. -/
def sendPts (c : Dev nD) (k : Fin 7) (f : Buf (Elt F) ((sendM k).view.loc (c : Thread nD τ))) : sProp 𝕄 :=
  (sendM k).view.loc (c : Thread nD τ) ↦[(sendM k).view.set]{fullShare} f
/-- Device `c`'s receive slot for exchange `k` is held, with contents `f`. -/
def recvPts (c : Dev nD) (k : Fin 7) (f : Buf (Elt F) ((recvM k).view.loc (c : Thread nD τ))) : sProp 𝕄 :=
  (recvM k).view.loc (c : Thread nD τ) ↦[(recvM k).view.set]{fullShare} f
/-- The send slot is held with some contents. -/
def sendAny (c : Dev nD) (k : Fin 7) : sProp 𝕄 := iprop(∃ f, sendPts c k f)
/-- The receive slot is held with some contents. -/
def recvAny (c : Dev nD) (k : Fin 7) : sProp 𝕄 := iprop(∃ f, recvPts c k f)
/-- The receive slot holds the block that the sender of exchange `k` computed for `c`. -/
def recvFull (c : Dev nD) (k : Fin 7) : sProp 𝕄 :=
  iprop(∃ f, ⌜(recvM k).view.read (Elt F) f = blk m (src c k) c⌝ ∗ recvPts c k f)

instance sendAny_storable (c : Dev nD) (k : Fin 7) : BI.Storable (upEmb : UEmb _ 𝕄) (sendAny (F := F) c k) := by
  unfold sendAny sendPts; infer_instance
instance recvAny_storable (c : Dev nD) (k : Fin 7) : BI.Storable (upEmb : UEmb _ 𝕄) (recvAny (F := F) c k) := by
  unfold recvAny recvPts; infer_instance
instance recvFull_storable (c : Dev nD) (k : Fin 7) : BI.Storable (upEmb : UEmb _ 𝕄) (recvFull (F := F) m c k) := by
  unfold recvFull recvPts; infer_instance

/-! ## The schedule -/

set_option backward.proofsInPublic true in
/-- The exchange that a copy semaphore belongs to. -/
def exch (q : DmaSem sig) : Fin 7 := ⟨(q.val - 4) % 8 % 7, Nat.mod_lt _ (by decide)⟩

theorem exch_send (k : Fin 7) : exch (sendS k) = k := by revert k; decide +kernel
theorem exch_recv (k : Fin 7) : exch (recvS k) = k := by revert k; decide +kernel
theorem send_ne_recv (k k' : Fin 7) : sendS k ≠ recvS k' := by revert k k'; decide +kernel
theorem sendS_inj (k k' : Fin 7) (h : sendS k = sendS k') : k = k' := by rw [← exch_send k, h, exch_send]
theorem recvS_inj (k k' : Fin 7) (h : recvS k = recvS k') : k = k' := by rw [← exch_recv k, h, exch_recv]

/-- The payments that a semaphore receives. -/
def dutiesOf : SemLoc sig → Finset (Fin 7)
  | .reg s => if s = barS then Finset.univ else ∅
  | .dma q => if q = recvS (exch q) ∨ q = sendS (exch q) then {0} else ∅
/-- The size of one payment. -/
def amountOf : SemLoc sig → ℕ
  | .reg _ => 1
  | .dma _ => N
/-- What comes with payment `d` to a semaphore of device `c`. -/
def payOf (c : Dev nD) (d : Fin 7) : SemLoc sig → sProp 𝕄
  | .reg _ => recvAny (dst c d) d
  | .dma q => if q = recvS (exch q) then recvFull m c (exch q) else if q = sendS (exch q) then sendAny c (exch q) else iprop(emp)

/-- The schedule of all semaphores of the exchange. -/
def sched : Rounds.Schedule (GSem nD τ sig) (Fin 7) 𝕄 where
  duties g r := if r = 0 ∧ g.1.2 = .tc then dutiesOf g.2 else ∅
  unitless _ := False
  amount g _ _ := amountOf g.2
  payload g _ d := payOf m g.1.1 d g.2
  amount_pos g _ _ _ := by
    rcases g with ⟨t, s | s⟩
    · exact Nat.one_pos
    · exact N_pos

instance sched_payload_storable (g : GSem nD τ sig) (r : ℕ) (d : Fin 7) :
    BI.Storable (upEmb : UEmb _ 𝕄) ((sched (F := F) m).payload g r d) := by
  rcases g with ⟨t, s | s⟩
  · show BI.Storable upEmb (recvAny (F := F) (dst t.1 d) d)
    infer_instance
  · show BI.Storable upEmb (if s = recvS (exch s) then recvFull (F := F) m t.1 (exch s) else if s = sendS (exch s) then sendAny t.1 (exch s) else iprop(emp))
    (repeat' split) <;> infer_instance

section Sched
variable (c : Dev nD) (k : Fin 7)

theorem duties_bar : (sched (F := F) m).duties (barCell c) 0 = Finset.univ := by
  dsimp only [sched]; rw [if_pos ⟨rfl, rfl⟩]; show (if barS = barS then Finset.univ else ∅) = _; exact if_pos rfl
theorem duties_send : (sched (F := F) m).duties (sendCell c k) 0 = {0} := by
  dsimp only [sched]; rw [if_pos ⟨rfl, rfl⟩]; exact if_pos (.inr (by rw [exch_send]))
theorem duties_recv : (sched (F := F) m).duties (recvCell c k) 0 = {0} := by
  dsimp only [sched]; rw [if_pos ⟨rfl, rfl⟩]; exact if_pos (.inl (by rw [exch_recv]))
theorem duties_later (g : GSem nD τ sig) : ∀ r, 1 ≤ r → (sched (F := F) m).duties g r = ∅ :=
  fun r hr => by dsimp only [sched]; exact if_neg fun h => by omega

theorem amount_bar (d : Fin 7) : (sched (F := F) m).amount (barCell c) 0 d = 1 := rfl
theorem amount_send (d : Fin 7) : (sched (F := F) m).amount (sendCell c k) 0 d = N := rfl
theorem amount_recv (d : Fin 7) : (sched (F := F) m).amount (recvCell c k) 0 d = N := rfl

theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c k) 0 = N := by
  unfold Schedule.expect Schedule.amountOf; rw [duties_send, Finset.sum_singleton, amount_send]
theorem expect_recv : (sched (F := F) m).expect (recvCell c k) 0 = N := by
  unfold Schedule.expect Schedule.amountOf; rw [duties_recv, Finset.sum_singleton, amount_recv]

theorem payload_bar (d : Fin 7) : (sched (F := F) m).payload (barCell c) 0 d = recvAny (dst c d) d := rfl
theorem payload_send (d : Fin 7) : (sched (F := F) m).payload (sendCell c k) 0 d = sendAny c k := by
  show (if sendS k = recvS (exch (sendS k)) then recvFull m c (exch (sendS k))
    else if sendS k = sendS (exch (sendS k)) then sendAny c (exch (sendS k)) else iprop(emp)) = _
  rw [exch_send, if_neg (send_ne_recv k k), if_pos rfl]
theorem payload_recv (d : Fin 7) : (sched (F := F) m).payload (recvCell c k) 0 d = recvFull m c k := by
  show (if recvS k = recvS (exch (recvS k)) then recvFull m c (exch (recvS k)) else _) = _
  rw [exch_recv, if_pos rfl]

/-- All that comes with the barrier's round: the receive slots that device `c` will send into. -/
theorem rest_bar : bigSep ((sched (F := F) m).duties (barCell c) 0 \ ∅) (fun d => (sched (F := F) m).payload (barCell c) 0 d)
    = bigSep Finset.univ (fun d => recvAny (dst c d) d) := by
  rw [Finset.sdiff_empty, duties_bar]; rfl
theorem rest_send : bigSep ((sched (F := F) m).duties (sendCell c k) 0 \ ∅) (fun d => (sched (F := F) m).payload (sendCell c k) 0 d) = sendAny c k := by
  rw [Finset.sdiff_empty, duties_send, bigSep_singleton, payload_send]
theorem rest_recv : bigSep ((sched (F := F) m).duties (recvCell c k) 0 \ ∅) (fun d => (sched (F := F) m).payload (recvCell c k) 0 d) = recvFull m c k := by
  rw [Finset.sdiff_empty, duties_recv, bigSep_singleton, payload_recv]

end Sched

/-! ## The exchanges still to do, and those done -/

/-- The exchanges from the `n`-th on. -/
abbrev left (n : ℕ) : Finset (Fin 7) := Finset.univ.filter (n ≤ ·.val)
/-- The exchanges before the `n`-th. -/
abbrev gone (n : ℕ) : Finset (Fin 7) := Finset.univ.filter (·.val < n)

theorem left_peel (k : Fin 7) : left k.val = insert k (left (k.val + 1)) := by
  ext j
  simp only [left, Finset.mem_insert, Finset.mem_filter, Finset.mem_univ, true_and, Fin.ext_iff]
  omega
theorem left_fresh (k : Fin 7) : k ∉ left (k.val + 1) := by simp [left]
theorem gone_add (k : Fin 7) : gone (k.val + 1) = insert k (gone k.val) := by
  ext j
  simp only [gone, Finset.mem_insert, Finset.mem_filter, Finset.mem_univ, true_and, Fin.ext_iff]
  omega
theorem gone_fresh (k : Fin 7) : k ∉ gone k.val := by simp [gone]
theorem left_zero : left 0 = Finset.univ := by decide
theorem left_seven : left 7 = ∅ := by decide
theorem gone_zero : gone 0 = ∅ := by decide
theorem gone_seven : gone 7 = Finset.univ := by decide

theorem sep_left (k : Fin 7) (Φ : Fin 7 → sProp 𝕄) :
    bigSep (left k.val) Φ = iprop(Φ k ∗ bigSep (left (k.val + 1)) Φ) := by
  rw [left_peel, bigSep_insert (left_fresh k)]; rfl
theorem sep_gone (k : Fin 7) (Φ : Fin 7 → sProp 𝕄) :
    bigSep (gone (k.val + 1)) Φ = iprop(Φ k ∗ bigSep (gone k.val) Φ) := by
  rw [gone_add, bigSep_insert (gone_fresh k)]; rfl

/-! ## What a device owes -/

/-- What device `c` owes after `a` sends and `b` signals: a block to each receiver not yet sent to, a unit to each
    barrier not yet signalled. -/
def owed (c : Dev nD) (a b : ℕ) : CellTallies nD τ sig Unit :=
  (∑ k ∈ left a, tallyAt (recvCell (dst c k) k) () N) + ∑ k ∈ left b, tallyAt (barCell (dst c k)) () 1

theorem owed_signal (c : Dev nD) (a : ℕ) (k : Fin 7) :
    owed c a k.val = owed c a (k.val + 1) + tallyAt (barCell (dst c k)) () 1 := by
  unfold owed
  rw [left_peel k, Finset.sum_insert (left_fresh k), add_assoc, add_comm (tallyAt (barCell (dst c k)) () 1)]
theorem owed_send (c : Dev nD) (k : Fin 7) :
    owed c k.val 7 = owed c (k.val + 1) 7 + tallyAt (recvCell (dst c k) k) () N := by
  unfold owed
  rw [left_peel k, Finset.sum_insert (left_fresh k), left_seven, Finset.sum_empty, add_zero, add_zero, add_comm]
theorem owed_none (c : Dev nD) : owed c 7 7 = 0 := by
  unfold owed; rw [left_seven, Finset.sum_empty, Finset.sum_empty, add_zero]

/-- A cell to which a sum of debts gives something is one of the summands' cells. -/
theorem sum_tally_pos (S : Finset (Fin 7)) (f : Fin 7 → GSem nD τ sig) (n : ℕ) {g : GSem nD τ sig} {u : Unit}
    (h : 0 < (∑ k ∈ S, tallyAt (f k) () n : CellTallies nD τ sig Unit) g u) : ∃ k ∈ S, g = f k := by
  by_contra hn
  push Not at hn
  rw [Finset.sum_apply, Finsupp.finset_sum_apply, Finset.sum_eq_zero] at h
  · exact Nat.lt_irrefl 0 h
  · intro k hk
    rw [tallyAt_apply, if_neg fun h' => hn k hk h'.1]

theorem owed_pos {c : Dev nD} {a b : ℕ} {g : GSem nD τ sig} {u : Unit} (h : 0 < owed c a b g u) :
    (∃ k, g = recvCell (dst c k) k) ∨ ∃ k ∈ left b, g = barCell (dst c k) := by
  unfold owed at h
  rw [Pi.add_apply, Finsupp.add_apply] at h
  rcases Nat.add_pos_iff_pos_or_pos.mp h with h | h
  · obtain ⟨k, -, e⟩ := sum_tally_pos _ _ _ h
    exact .inl ⟨k, e⟩
  · exact .inr (sum_tally_pos _ _ _ h)

/-! ## The order of the semaphores -/

/-- The semaphores that are waited on: those of the devices' main threads. -/
def L (g : GSem nD τ sig) : Finset Unit := if g.1.2 = .tc then {()} else ∅
/-- The level of a semaphore: a device waiting on one owes only to semaphores of a higher level. -/
def level : SemLoc sig → ℕ
  | .reg _ => 1
  | .dma q => if q = recvS (exch q) then 2 else 0
def lv (g : GSem nD τ sig) (_ : Unit) : ℕ := level g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 7) (u : Unit) : lv (recvCell c k) u = 2 := if_pos (by rw [exch_recv])

/-- A wait on a semaphore of level zero is allowed whatever is still owed. -/
theorem mayWait_low (c : Dev nD) (sm : SemLoc sig) (hs : level sm = 0) (a b : ℕ) :
    (levAts L lv : sProp 𝕄) ⊢ MayWait (c : Thread nD τ) sm () (owed c a b) :=
  MayOwe.of_cut (L := L) (lev := lv) 0 (fun p hp => by rw [Finset.mem_singleton.mp hp, L_tc]; exact Finset.mem_singleton_self _)
    (fun g u hg => by rcases owed_pos hg with ⟨k, rfl⟩ | ⟨k, -, rfl⟩ <;> exact Finset.mem_singleton_self _)
    (fun p hp => by rw [Finset.mem_singleton.mp hp]; exact hs.le)
    (fun g u hg => by
      rcases owed_pos hg with ⟨k, rfl⟩ | ⟨k, -, rfl⟩
      · rw [lv_recv]; decide
      · exact Nat.one_pos)

/-- The wait on the barrier is allowed once all signals have been given. -/
theorem mayWait_bar (c : Dev nD) (a : ℕ) :
    (levAts L lv : sProp 𝕄) ⊢ MayWait (c : Thread nD τ) (.reg barS) () (owed c a 7) :=
  MayOwe.of_cut (L := L) (lev := lv) 1 (fun p hp => by rw [Finset.mem_singleton.mp hp, L_tc]; exact Finset.mem_singleton_self _)
    (fun g u hg => by rcases owed_pos hg with ⟨k, rfl⟩ | ⟨k, -, rfl⟩ <;> exact Finset.mem_singleton_self _)
    (fun p hp => by rw [Finset.mem_singleton.mp hp]; exact le_refl 1)
    (fun g u hg => by
      rcases owed_pos hg with ⟨k, rfl⟩ | ⟨k, hk, rfl⟩
      · rw [lv_recv]; decide
      · rw [left_seven] at hk; exact absurd hk (Finset.notMem_empty _))

/-! ## All cells of the exchange -/

/-- The names of a device's cells: the barrier, and for each exchange the send and the receive cell. -/
abbrev CK : Type := Option (Bool × Fin 7)
/-- The semaphore of that name. -/
def csem : CK → SemLoc sig
  | none => .reg barS
  | some (false, k) => .dma (sendS k)
  | some (true, k) => .dma (recvS k)
abbrev kcell (ck : Dev nD × CK) : GSem nD τ sig := ((ck.1 : Thread nD τ), csem ck.2)

theorem csem_injective : Function.Injective csem := by
  rintro (_ | ⟨_ | _, k⟩) (_ | ⟨_ | _, k'⟩) h
  · rfl
  · cases h
  · cases h
  · cases h
  · rw [sendS_inj k k' (SemLoc.dma.inj h)]
  · exact absurd (SemLoc.dma.inj h) (send_ne_recv k k')
  · cases h
  · exact absurd (SemLoc.dma.inj h).symm (send_ne_recv k' k)
  · rw [recvS_inj k k' (SemLoc.dma.inj h)]

/-- The invariants of all cells, under the names `K`, and that every cell's round has begun. -/
def records (K : Dev nD × CK → ℕ) : sProp 𝕄 :=
  bigSep Finset.univ (fun ck : Dev nD × CK => iprop(cellInv ER (sched m) (K ck) (kcell ck) ∗ reached ER (kcell ck) 0))

instance records_persistent (K : Dev nD × CK → ℕ) : BI.Persistent (records (F := F) m K) := by unfold records; infer_instance

/-- One cell's share of the records. -/
theorem records_at (K : Dev nD × CK → ℕ) (ck : Dev nD × CK) :
    records (F := F) m K ⊢ iprop(cellInv ER (sched m) (K ck) (kcell ck) ∗ reached ER (kcell ck) 0) := by
  unfold records; rw [bigSep_univ_at _ ck]; iintro ⟨H, -⟩; iexact H

end Cert.Exchange
-- ==== Proof.Steps.lean ====
/-
# One step of each kind

A device's run has five stages: it signals the seven barriers, waits on its own, computes and sends seven
blocks, receives seven, and waits until its seven sends are over. For each stage there is a proposition
that says what the device holds after `n` steps of it, and a lemma for one step, stated for every exchange.
-/
module

public import proofs.«01_k».proof.Proof.Cells

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

abbrev 𝒱₀ : Variants := Variants.none

/-- Device `c`'s main thread runs `p` and ends with `Q`. -/
abbrev runs (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- Device `c` holds the whole buffer `b`, with contents `f`. -/
abbrev holds (c : Dev nD) (b : Ref sig .tc) (f : Buf (Elt F) ((c : Thread nD τ).loc b)) : sProp 𝕄 :=
  ((c : Thread nD τ).loc b) ↦{fullShare} f

variable (K : Dev nD × CK → ℕ)

/-- What every device knows throughout: the cells' invariants and the order of the semaphores. -/
def known : sProp 𝕄 := iprop(records m K ∗ levAts L lv)
instance known_persistent : BI.Persistent (known (F := F) m K) := by unfold known; infer_instance

theorem known_levels : known (F := F) m K ⊢ levAts L lv := by unfold known; iintro ⟨-, H⟩; iexact H
theorem known_bar (c : Dev nD) : known (F := F) m K ⊢ iprop(cellInv ER (sched m) (K (c, none)) (barCell c) ∗ reached ER (barCell c) 0) := by
  unfold known; iintro ⟨H, -⟩; iapply (records_at m K (c, none)); iexact H
theorem known_send (c : Dev nD) (k : Fin 7) : known (F := F) m K
    ⊢ iprop(cellInv ER (sched m) (K (c, some (false, k))) (sendCell c k) ∗ reached ER (sendCell c k) 0) := by
  unfold known; iintro ⟨H, -⟩; iapply (records_at m K (c, some (false, k))); iexact H
theorem known_recv (c : Dev nD) (k : Fin 7) : known (F := F) m K
    ⊢ iprop(cellInv ER (sched m) (K (c, some (true, k))) (recvCell c k) ∗ reached ER (recvCell c k) 0) := by
  unfold known; iintro ⟨H, -⟩; iapply (records_at m K (c, some (true, k))); iexact H

/-! ## Signalling -/

/-- After `n` signals: what is still owed, and the tokens and receive slots that go with the remaining signals. -/
def sigSt (c : Dev nD) (n : ℕ) : sProp 𝕄 :=
  iprop((∃ W, owes (c : Thread nD τ) (owed c 0 n) W)
    ∗ bigSep (left n) (fun k => iprop(dutyTok ER (barCell (dst c k)) 0 (opp k) ∗ recvAny c (opp k))))

/-- The signal of exchange `k`, to the barrier of the device that `c` will send to: with it goes the slot that this device will send into. -/
theorem step_signal (c : Dev nD) (n : ℕ) (k : Fin 7) (hk : k.val = n) (p : Dev nD) (hp : p = dst c k) (a : ℕ) (ha : 1 = a) {R : sProp 𝕄}
    {rest : PUnit → Prog (TpuEff nD τ sig (Elt F) Λ₀ .tc) PUnit} {Q : PUnit → sProp 𝕄}
    (h : iprop(known m K ∗ sigSt c (n + 1) ∗ R) ⊢ runs c (rest ⟨⟩) Q) :
    iprop(known m K ∗ sigSt c n ∗ R) ⊢ runs c (.op (.semSignal (p : Thread nD τ) barS a) rest) Q := by
  subst hk; subst hp; subst ha
  unfold sigSt
  rw [sep_left]
  iintro ⟨#HK, ⟨⟨%W, HO⟩, ⟨Htok, Hslot⟩, Hrest⟩, HR⟩
  ihave #HI := (known_bar m K (dst c k)) $$ HK
  icases HI with ⟨#HI, #Hr⟩
  iapply (Rounds.wp_signal 𝒱₀ ER (sched m) (c : Thread nD τ) none (dst := (dst c k : Thread nD τ)) (κ := K (dst c k, none))
      (d := opp k) (by rw [duties_bar]; exact Finset.mem_univ _) (amount_bar m (dst c k) (opp k)) () (owed c 0 (k.val + 1)) (owed_signal c 0 k))
    $$ [HO Htok Hslot]
  · isplitr; · iexact HI
    isplitl [HO]; · iexact HO
    isplitl [Htok]; · iexact Htok
    isplitl [Hslot]
    · rw [payload_bar, dst_opp]; iexact Hslot
    iexact Hr
  iintro HO
  iapply h
  isplitr; · iexact HK
  isplitl [HO Hrest]
  · unfold sigSt
    isplitl [HO]; · iexists W; iexact HO
    iexact Hrest
  iexact HR

/-! ## The barrier -/

/-- The wait on the own barrier: the slots that `c` will send into are `c`'s from then on. -/
theorem step_barrier (c : Dev nD) (a : ℕ) (ha : 7 = a) {R : sProp 𝕄}
    {rest : PUnit → Prog (TpuEff nD τ sig (Elt F) Λ₀ .tc) PUnit} {Q : PUnit → sProp 𝕄}
    (h : iprop(known m K ∗ ((∃ W, owes (c : Thread nD τ) (owed c 0 7) W) ∗ semVal (barCell c) 0 ∗ bigSep Finset.univ (fun k => recvAny (dst c k) k)) ∗ R)
      ⊢ runs c (rest ⟨⟩) Q) :
    iprop(known m K ∗ (sigSt c 7 ∗ cred (tallyAt (barCell c) () 7) ∗ atPos ER (barCell c) 0 ∅ 0) ∗ R)
      ⊢ runs c (.op (.semWait barS a) rest) Q := by
  subst ha
  unfold sigSt
  iintro ⟨#HK, ⟨⟨⟨%W, HO⟩, -⟩, Hc, Hat⟩, HR⟩
  ihave #HI := (known_bar m K c) $$ HK
  icases HI with ⟨#HI, #Hr⟩
  iapply (Rounds.wp_wait_rest_token 𝒱₀ ER (sched m) (c : Thread nD τ) none (κ := K (c, none))
      (wpE_semWait_eq 𝒱₀ (c : Thread nD τ) none Set.univ) (Set.mem_univ _) () (O := owed c 0 7) (W := W) (R := 0) (m := 0) (T := ∅)
      (by rw [expect_bar])) $$ [Hc HO Hat]
  · isplitr; · iexact HI
    isplitl [Hc]; · iexact Hc
    isplitl [HO]; · iexact HO
    isplitr; · iapply (mayWait_bar c 0); iapply (known_levels m K); iexact HK
    iexact Hat
  iintro ⟨HO, Hat, -, Hpay⟩
  ihave Hp := (Entails.of_eq (rest_bar m c)) $$ Hpay
  imod (Rounds.cell_close ER (sched m) (Set.mem_univ (K (c, none))) (fun h => h) (R := 0 + 1) (duties_later m (barCell c))) $$ [Hat] with Hz
  · isplitr; · iexact HI
    iexact Hat
  iapply h
  isplitr; · iexact HK
  isplitl [HO Hp Hz]
  · isplitl [HO]; · iexists (insert (SemLoc.reg barS, ()) W); iexact HO
    isplitl [Hz] <;> iassumption
  iexact HR

/-! ## The own block -/

/-- The load of the rows of `x`. -/
theorem step_x (c : Dev nD) (inb) {hl} {R : sProp 𝕄}
    {rest : Vec F S256x2048 .bf16 → Prog (TpuEff nD τ sig (Elt F) Λ₀ .tc) PUnit} {Q : PUnit → sProp 𝕄}
    (h : iprop(known m K ∗ holds c cc0_stg0_0 (xstg m c) ∗ R) ⊢ runs c (rest (xstg m c)) Q) :
    iprop(known m K ∗ holds c cc0_stg0_0 (xstg m c) ∗ R)
      ⊢ runs c (.op (.load (Memref.whole cc0_stg0_0) (Rect.unit (s := S256x2048) ![0, 0] S256x2048.size inb).toLoadRect hl) rest) Q := by
  iintro ⟨#HK, Hx, HR⟩
  iapply (wp_load 𝒱₀ (c : Thread nD τ) none Set.univ (m := Memref.whole cc0_stg0_0) (Finset.subset_univ _)) $$ Hx
  iintro Hx
  rw [show (Memref.whole cc0_stg0_0).view.readAt (Elt F) (Rect.unit (s := S256x2048) ![0, 0] S256x2048.size inb).toLoadRect (xstg m c) = xstg m c from
    Memref.readAt_unit_zero (Elt F) cc0_stg0_0 zero_off _ _]
  iapply h
  isplitr; · iexact HK
  isplitl [Hx] <;> iassumption

/-- The block that a device computes for itself: it is stored into its own rows of the result. -/
theorem step_own (c : Dev nD) (f : Buf (Elt F) ((c : Thread nD τ).loc cc0_stg2_0))
    (o : Fin 2 → ℕ) (ho : o = ![0, 256 * c.val]) (inb) (o' : Fin 2 → ℕ) (ho' : o' = ![256 * c.val, 0]) (inb') {hl hl' hs hm}
    (pay : Vec F S2048x256 .bf16 → FVec F S256x256 .bf16) (hpay : ∀ w, pay w = k0_pay2 (xstg m c) w) {R : sProp 𝕄}
    {rest : Vec F S2048x256 .bf16 → Vec F S256x256 .bf16 → PUnit → Prog (TpuEff nD τ sig (Elt F) Λ₀ .tc) PUnit} {Q : PUnit → sProp 𝕄}
    (h : ∀ w v, iprop(known m K ∗ (holds c cc0_stg1_0 (wstg m c) ∗ holds c cc0_stg2_0 (fill m c 1 f)) ∗ R) ⊢ runs c (rest w v ⟨⟩) Q) :
    iprop(known m K ∗ (holds c cc0_stg1_0 (wstg m c) ∗ holds c cc0_stg2_0 f) ∗ R)
      ⊢ runs c (.op (.load (Memref.whole cc0_stg1_0) (Rect.unit (s := S2048x2048) o S2048x256.size inb).toLoadRect hl) fun w =>
          .op (.load (Memref.whole cc0_stg2_0) (Rect.unit (s := S2048x256) o' S256x256.size inb').toLoadRect hl') fun v =>
          .op (.store (Memref.whole cc0_stg2_0) (Rect.unit (s := S2048x256) o' S256x256.size inb') (pay w) Finset.univ hs hm) (rest w v)) Q := by
  subst ho
  iintro ⟨#HK, ⟨Hw, Hout⟩, HR⟩
  iapply (wp_load 𝒱₀ (c : Thread nD τ) none Set.univ (m := Memref.whole cc0_stg1_0) (Finset.subset_univ _)) $$ Hw
  iintro Hw
  iapply (wp_load 𝒱₀ (c : Thread nD τ) none Set.univ (m := Memref.whole cc0_stg2_0) (Finset.subset_univ _)) $$ Hout
  iintro Hout
  iapply (wp_store 𝒱₀ (c : Thread nD τ) none Set.univ (m := Memref.whole cc0_stg2_0) (r := Rect.unit (s := S2048x256) o' S256x256.size inb')
    (Mk := Finset.univ) (Finset.subset_univ _)) $$ Hout
  iintro Hout
  rw [hpay, show k0_pay2 (xstg m c) ((Memref.whole cc0_stg1_0).view.readAt (Elt F)
      (Rect.unit (s := S2048x2048) ![0, 256 * c.val] S2048x256.size inb).toLoadRect (wstg m c)) = blk m c c from rfl]
  have hf := fill_store m c c 0 (turn_self c) f ho' inb'
  rw [fill_zero] at hf
  rw [hf]
  iapply (h _ _)
  isplitr; · iexact HK
  isplitl [Hw Hout]
  · isplitl [Hw] <;> iassumption
  iexact HR

/-! ## Sending -/

/-- After `n` sends: for the remaining ones, the receiver's slot, the two tokens and the send slot; for those made, the right to wait for their end. -/
def sendSt (c : Dev nD) (n : ℕ) : sProp 𝕄 :=
  iprop((∃ W, owes (c : Thread nD τ) (owed c n 7) W)
    ∗ bigSep (left n) (fun k => iprop(recvAny (dst c k) k ∗ dutyTok ER (sendCell c k) 0 0 ∗ dutyTok ER (recvCell (dst c k) k) 0 0 ∗ sendAny c k))
    ∗ bigSep (gone n) (fun k => cred (tallyAt (sendCell c k) () N))
    ∗ holds c cc0_stg1_0 (wstg m c))

/-- The copy of exchange `k`, from a send slot that holds the block for the receiver. -/
theorem wp_copy (c : Dev nD) (k : Fin 7) {hsc hsrc hdst hsem}
    (f : Buf (Elt F) ((sendM k).view.loc (c : Thread nD τ))) (hf : (sendM k).view.read (Elt F) f = blk m c (dst c k))
    (fn : Buf (Elt F) ((recvM k).view.loc (dst c k : Thread nD τ))) (W : Waits sig Unit)
    {rest : PUnit → Prog (TpuEff nD τ sig (Elt F) Λ₀ .tc) PUnit} {Q : PUnit → sProp 𝕄} :
    iprop(cellInv ER (sched m) (K (c, some (false, k))) (sendCell c k) ∗ cellInv ER (sched m) (K (dst c k, some (true, k))) (recvCell (dst c k) k)
        ∗ sendPts c k f ∗ recvPts (dst c k) k fn ∗ owes (c : Thread nD τ) (owed c k.val 7) W
        ∗ dutyTok ER (sendCell c k) 0 0 ∗ reached ER (sendCell c k) 0
        ∗ dutyTok ER (recvCell (dst c k) k) 0 0 ∗ reached ER (recvCell (dst c k) k) 0)
      ⊢ iprop(((cred (tallyAt (sendCell c k) () N) ∗ owes (c : Thread nD τ) (owed c (k.val + 1) 7) W) -∗ runs c (rest ⟨⟩) Q)
          -∗ runs c (.op (.enqueueDma (sendM k) (.remote (Dev.tc (dst c k) : Thread nD τ) (recvM k) (.dma (sendS k)) hsc) (.dma (recvS k)) hsrc hdst hsem) rest) Q) := by
  unfold sendPts recvPts
  exact Rounds.wp_send_pointsTo 𝒱₀ ER (sched m) (c : Thread nD τ) none (κ₁ := K (c, some (false, k))) (κ₂ := K (dst c k, some (true, k)))
    (r₁ := 0) (r₂ := 0) (d₁ := 0) (d₂ := 0) (fd := fn)
    (by rw [duties_send]; exact Finset.mem_singleton_self _) (by rw [duties_recv]; exact Finset.mem_singleton_self _)
    () () N (amount_recvM k) (amount_send m c k 0) (amount_recv m (dst c k) k 0) (owed c (k.val + 1) 7) (owed_send c k) (W := W)
    (by rw [payload_send]; unfold sendAny sendPts; iintro H; iexists f; iexact H)
    (by
      rw [payload_recv]; unfold recvFull recvPts
      iintro H
      iexists ((recvM k).view.write (Elt F) fn ((sendM k).view.read (Elt F) f) Finset.univ)
      isplitr
      · ipureintro
        rw [View.read_write_univ, src_dst, hf]
      iexact H)

/-- One send: load the columns, multiply, store the block into the send slot, start the copy. -/
theorem step_send (c : Dev nD) (n : ℕ) (k : Fin 7) (hk : k.val = n) (p : Dev nD) (hp : p = dst c k)
    (o : Fin 2 → ℕ) (ho : o = ![0, 256 * (dst c k).val]) (inb) {hl hl' hs hm hsc hsrc hdst hsem}
    (pay : Vec F S2048x256 .bf16 → FVec F S1x256x256 .bf16)
    (hpay : ∀ w, pay w = shapeCast S1x256x256 (k0_pay2 (xstg m c) w) shapeCasts_S256x256_S1x256x256) {R : sProp 𝕄}
    {rest : Vec F S2048x256 .bf16 → Vec F S1x256x256 .bf16 → PUnit → PUnit → Prog (TpuEff nD τ sig (Elt F) Λ₀ .tc) PUnit} {Q : PUnit → sProp 𝕄}
    (h : ∀ w v, iprop(known m K ∗ sendSt m c (n + 1) ∗ R) ⊢ runs c (rest w v ⟨⟩ ⟨⟩) Q) :
    iprop(known m K ∗ sendSt m c n ∗ R)
      ⊢ runs c (.op (.load (Memref.whole cc0_stg1_0) (Rect.unit (s := S2048x2048) o S2048x256.size inb).toLoadRect hl) fun w =>
          .op (.load (Memref.whole cc0_scratch0) (slotR k).toLoadRect hl') fun v =>
          .op (.store (Memref.whole cc0_scratch0) (slotR k) (pay w) Finset.univ hs hm) fun u =>
          .op (.enqueueDma (sendM k) (.remote (Dev.tc p : Thread nD τ) (recvM k) (.dma (sendS k)) hsc) (.dma (recvS k)) hsrc hdst hsem) (rest w v u)) Q := by
  subst hk; subst hp; subst ho
  unfold sendSt
  rw [sep_left]
  iintro ⟨#HK, ⟨⟨%W, HO⟩, ⟨⟨Hslot, HtS, HtR, Hsnd⟩, Hrest⟩, Hgone, Hw⟩, HR⟩
  ihave #HI := (known_send m K c k) $$ HK
  icases HI with ⟨#HIs, #Hrs⟩
  ihave #HI := (known_recv m K (dst c k) k) $$ HK
  icases HI with ⟨#HIr, #Hrr⟩
  unfold sendAny recvAny sendPts
  icases Hsnd with ⟨%f, Hsnd⟩
  icases Hslot with ⟨%fn, Hslot⟩
  iapply (wp_load 𝒱₀ (c : Thread nD τ) none Set.univ (m := Memref.whole cc0_stg1_0) (Finset.subset_univ _)) $$ Hw
  iintro Hw
  iapply (wp_load_rect 𝒱₀ (c : Thread nD τ) none Set.univ (m := Memref.whole cc0_scratch0) (r := slotR k) (S := (sendM k).view.set) (sendM_set k).ge) $$ Hsnd
  iintro Hsnd
  iapply (wp_store 𝒱₀ (c : Thread nD τ) none Set.univ (m := Memref.whole cc0_scratch0) (r := slotR k)
    (Mk := Finset.univ) (S := (sendM k).view.set) (sendM_set k).ge) $$ Hsnd
  iintro Hsnd
  rw [hpay]
  iapply (wp_copy m K c k _ (read_stored k f _) fn W) $$ [Hsnd Hslot HO HtS HtR]
  · isplitr; · iexact HIs
    isplitr; · iexact HIr
    isplitl [Hsnd]; · unfold sendPts; iexact Hsnd
    isplitl [Hslot]; · iexact Hslot
    isplitl [HO]; · iexact HO
    isplitl [HtS]; · iexact HtS
    isplitr; · iexact Hrs
    isplitl [HtR]; · iexact HtR
    iexact Hrr
  iintro ⟨Hc, HO⟩
  iapply (h _ _)
  isplitr; · iexact HK
  isplitl [HO Hrest Hc Hgone Hw]
  · unfold sendSt
    rw [sep_gone]
    isplitl [HO]; · iexists W; iexact HO
    isplitl [Hrest]; · iexact Hrest
    isplitl [Hc Hgone]
    · isplitl [Hc] <;> iassumption
    iexact Hw
  iexact HR

/-! ## Receiving -/

/-- After `n` blocks have been received: the rights to wait for the others; the semaphores and slots of those received; the result
    filled with the own block and `n` more. -/
def recvSt (c : Dev nD) (f : Buf (Elt F) ((c : Thread nD τ).loc cc0_stg2_0)) (n : ℕ) : sProp 𝕄 :=
  iprop((∃ W, owes (c : Thread nD τ) 0 W)
    ∗ bigSep (left n) (fun k => iprop(cred (tallyAt (recvCell c k) () N) ∗ atPos ER (recvCell c k) 0 ∅ 0))
    ∗ bigSep (gone n) (fun k => iprop(semVal (recvCell c k) 0 ∗ recvAny c k))
    ∗ holds c cc0_stg2_0 (fill m c (n + 1) f))

/-- One receipt: wait for the block, load it, store it into the sender's rows of the result. -/
theorem step_recv (c : Dev nD) (f : Buf (Elt F) ((c : Thread nD τ).loc cc0_stg2_0)) (n : ℕ) (k : Fin 7) (hk : k.val = n)
    (o : Fin 2 → ℕ) (ho : o = ![256 * (src c k).val, 0]) (inb) {hw hw' hl hl' hs hm}
    (pay : Vec F S1x256x256 .bf16 → FVec F S256x256 .bf16)
    (hpay : ∀ v, pay v = shapeCast S256x256 v shapeCasts_S1x256x256_S256x256) {R : sProp 𝕄}
    {rest : PUnit → Vec F S1x256x256 .bf16 → Vec F S256x256 .bf16 → PUnit → Prog (TpuEff nD τ sig (Elt F) Λ₀ .tc) PUnit} {Q : PUnit → sProp 𝕄}
    (h : ∀ v v', iprop(known m K ∗ recvSt m c f (n + 1) ∗ R) ⊢ runs c (rest ⟨⟩ v v' ⟨⟩) Q) :
    iprop(known m K ∗ recvSt m c f n ∗ R)
      ⊢ runs c (.op (.waitDma2 (recvS k) (sendM k) (recvM k) hw hw') fun u =>
          .op (.load (Memref.whole cc0_scratch1) (slotR k).toLoadRect hl) fun v =>
          .op (.load (Memref.whole cc0_stg2_0) (Rect.unit (s := S2048x256) o S256x256.size inb).toLoadRect hl') fun v' =>
          .op (.store (Memref.whole cc0_stg2_0) (Rect.unit (s := S2048x256) o S256x256.size inb) (pay v) Finset.univ hs hm) (rest u v v')) Q := by
  subst hk
  unfold recvSt
  rw [sep_left]
  iintro ⟨#HK, ⟨⟨%W, HO⟩, ⟨⟨Hc, Hat⟩, Hrest⟩, Hgone, Hout⟩, HR⟩
  ihave #HI := (known_recv m K c k) $$ HK
  icases HI with ⟨#HI, #Hr⟩
  iapply (Rounds.wp_wait_rest_token 𝒱₀ ER (sched m) (c : Thread nD τ) none (κ := K (c, some (true, k)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c k)) $$ Hpay
  unfold recvFull recvPts
  icases Hp with ⟨%g, %hg, Hslot⟩
  imod (Rounds.cell_close ER (sched m) (Set.mem_univ (K (c, some (true, k)))) (fun h => h) (R := 0 + 1) (duties_later m (recvCell c k))) $$ [Hat] with Hz
  · isplitr; · iexact HI
    iexact Hat
  iapply (wp_load_rect 𝒱₀ (c : Thread nD τ) none Set.univ (m := Memref.whole cc0_scratch1) (r := slotR k) (S := (recvM k).view.set) (recvM_set k).ge) $$ Hslot
  iintro Hslot
  iapply (wp_load 𝒱₀ (c : Thread nD τ) none Set.univ (m := Memref.whole cc0_stg2_0) (Finset.subset_univ _)) $$ Hout
  iintro Hout
  iapply (wp_store 𝒱₀ (c : Thread nD τ) none Set.univ (m := Memref.whole cc0_stg2_0) (r := Rect.unit (s := S2048x256) o S256x256.size inb)
    (Mk := Finset.univ) (Finset.subset_univ _)) $$ Hout
  iintro Hout
  rw [hpay, show shapeCast S256x256 (((Memref.whole cc0_scratch1).access (slotR k)).read (Elt F) g) shapeCasts_S1x256x256_S256x256
    = blk m (src c k) c from (read_slot k g).trans hg, fill_store m c (src c k) (k.val + 1) (turn_src c k) f ho inb]
  iapply (h _ _)
  isplitr; · iexact HK
  isplitl [HO Hrest Hz Hslot Hgone Hout]
  · unfold recvSt
    rw [sep_gone]
    isplitl [HO]; · iexists (insert (SemLoc.dma (recvS k), ()) W); iexact HO
    isplitl [Hrest]; · iexact Hrest
    isplitl [Hz Hslot Hgone]
    · isplitl [Hz Hslot]
      · isplitl [Hz]; · iexact Hz
        unfold recvAny recvPts; iexists g; iexact Hslot
      iexact Hgone
    iexact Hout
  iexact HR

/-! ## The sends' ends -/

/-- After `n` sends are known to be over: the rights to wait for the others; the semaphores and send slots of those over. -/
def doneSt (c : Dev nD) (n : ℕ) : sProp 𝕄 :=
  iprop((∃ W, owes (c : Thread nD τ) 0 W)
    ∗ bigSep (left n) (fun k => iprop(cred (tallyAt (sendCell c k) () N) ∗ atPos ER (sendCell c k) 0 ∅ 0))
    ∗ bigSep (gone n) (fun k => iprop(semVal (sendCell c k) 0 ∗ sendAny c k)))

/-- One wait for the end of a send. -/
theorem step_done (c : Dev nD) (n : ℕ) (k : Fin 7) (hk : k.val = n) {hw hw'} {R : sProp 𝕄}
    {rest : PUnit → Prog (TpuEff nD τ sig (Elt F) Λ₀ .tc) PUnit} {Q : PUnit → sProp 𝕄}
    (h : iprop(known m K ∗ doneSt c (n + 1) ∗ R) ⊢ runs c (rest ⟨⟩) Q) :
    iprop(known m K ∗ doneSt c n ∗ R) ⊢ runs c (.op (.waitDma2 (sendS k) (recvM k) (sendM k) hw hw') rest) Q := by
  subst hk
  unfold doneSt
  rw [sep_left]
  iintro ⟨#HK, ⟨⟨%W, HO⟩, ⟨⟨Hc, Hat⟩, Hrest⟩, Hgone⟩, HR⟩
  ihave #HI := (known_send m K c k) $$ HK
  icases HI with ⟨#HI, #Hr⟩
  iapply (Rounds.wp_wait_rest_token 𝒱₀ ER (sched m) (c : Thread nD τ) none (κ := K (c, some (false, k)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c k)) $$ Hpay
  imod (Rounds.cell_close ER (sched m) (Set.mem_univ (K (c, some (false, k)))) (fun h => h) (R := 0 + 1) (duties_later m (sendCell c k))) $$ [Hat] with Hz
  · isplitr; · iexact HI
    iexact Hat
  iapply h
  isplitr; · iexact HK
  isplitl [HO Hrest Hz Hp Hgone]
  · unfold doneSt
    rw [sep_gone]
    isplitl [HO]; · iexists (insert (SemLoc.dma (sendS k), ()) W); iexact HO
    isplitl [Hrest]; · iexact Hrest
    isplitl [Hz Hp]
    · isplitl [Hz] <;> iassumption
    iexact Hgone
  iexact HR

end Cert.Exchange
-- ==== Proof.Body.lean ====
/-
# One device's run of the kernel body

The body is run once, for an arbitrary device: the steps of the five stages in order, each with its
device, offset and value read off the printed text, and between two stages a regrouping of what is held.
-/
module

public import proofs.«01_k».proof.Proof.Steps
public import proofs.«01_k».proof.Proof.Gen.KernelIdeal.Points
public import Idealize.ShloMosaic.Lib.Ring.FamCut

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ UU ℕ

variable (K : Dev nD × CK → ℕ)

/-! ## Cutting the two exchange buffers into slots -/

/-- The part of the send buffer that no exchange uses. -/
def sendSpare (c : Dev nD) : sProp 𝕄 :=
  iprop(∃ f, (c : Thread nD τ).loc cc0_scratch0 ↦[Ring.restOf (ℓ := (c : Thread nD τ).loc cc0_scratch0) fun k : Fin 7 => (sendM k).view.set]{fullShare} f)
/-- The part of the receive buffer that no exchange uses. -/
def recvSpare (c : Dev nD) : sProp 𝕄 :=
  iprop(∃ f, (c : Thread nD τ).loc cc0_scratch1 ↦[Ring.restOf (ℓ := (c : Thread nD τ).loc cc0_scratch1) fun k : Fin 7 => (recvM k).view.set]{fullShare} f)

theorem send_cut (c : Dev nD) : (iprop(∃ f, holds (F := F) c cc0_scratch0 f) : sProp 𝕄) ⊢ iprop(bigSep Finset.univ (fun k => sendAny c k) ∗ sendSpare c) :=
  Ring.fam_split_ex (ℓ := (c : Thread nD τ).loc cc0_scratch0) (fun k : Fin 7 => (sendM k).view.set) sendM_disjoint
theorem recv_cut (c : Dev nD) : (iprop(∃ f, holds (F := F) c cc0_scratch1 f) : sProp 𝕄) ⊢ iprop(bigSep Finset.univ (fun k => recvAny c k) ∗ recvSpare c) :=
  Ring.fam_split_ex (ℓ := (c : Thread nD τ).loc cc0_scratch1) (fun k : Fin 7 => (recvM k).view.set) recvM_disjoint
theorem send_join (m : (ℓ : Loc nD τ sig) → Buf (Elt F) ℓ) (c : Dev nD) : iprop(bigSep Finset.univ (fun k => sendAny c k) ∗ sendSpare c) ⊢ (iprop(∃ f, holds (F := F) c cc0_scratch0 f) : sProp 𝕄) :=
  Ring.fam_join (ℓ := (c : Thread nD τ).loc cc0_scratch0) (fun k : Fin 7 => (sendM k).view.set) sendM_disjoint (m ((c : Thread nD τ).loc cc0_scratch0))
theorem recv_join (m : (ℓ : Loc nD τ sig) → Buf (Elt F) ℓ) (c : Dev nD) : iprop(bigSep Finset.univ (fun k => recvAny c k) ∗ recvSpare c) ⊢ (iprop(∃ f, holds (F := F) c cc0_scratch1 f) : sProp 𝕄) :=
  Ring.fam_join (ℓ := (c : Thread nD τ).loc cc0_scratch1) (fun k : Fin 7 => (recvM k).view.set) recvM_disjoint (m ((c : Thread nD τ).loc cc0_scratch1))

/-! ## What the body starts from and ends with -/

/-- The two entries of the semaphore arrays that no exchange uses, at zero. -/
def semSpare (c : Dev nD) : sProp 𝕄 :=
  iprop(semVal ((c : Thread nD τ), .dma (⟨3, by decide⟩ : DmaSem sig)) 0 ∗ semVal ((c : Thread nD τ), .dma (⟨11, by decide⟩ : DmaSem sig)) 0)

/-- The tokens and positions that device `c` starts from. -/
def ghost (c : Dev nD) : sProp 𝕄 :=
  iprop(records m K
    ∗ bigSep Finset.univ (fun k => dutyTok ER (barCell (dst c k)) 0 (opp k))
    ∗ bigSep Finset.univ (fun k => dutyTok ER (sendCell c k) 0 0)
    ∗ bigSep Finset.univ (fun k => dutyTok ER (recvCell (dst c k) k) 0 0)
    ∗ atPos ER (barCell c) 0 ∅ 0
    ∗ bigSep Finset.univ (fun k => atPos ER (sendCell c k) 0 ∅ 0)
    ∗ bigSep Finset.univ (fun k => atPos ER (recvCell c k) 0 ∅ 0))

/-- That at some names, the rights to wait on the barrier and for the blocks to be received, and the order of the semaphores. -/
def start (c : Dev nD) : sProp 𝕄 :=
  iprop((∃ K, ghost m K c) ∗ cred (tallyAt (barCell c) () 7) ∗ bigSep Finset.univ (fun k => cred (tallyAt (recvCell c k) () N)) ∗ levAts L lv)

/-- Before the body. -/
def Φ₀ (c : Dev nD) : sProp 𝕄 :=
  iprop(start m c ∗ semSpare c ∗ (∃ f, holds c cc0_scratch0 f) ∗ (∃ f, holds c cc0_scratch1 f))
/-- After the body: every semaphore is at zero and the two exchange buffers are whole again. -/
def Φ₁ (c : Dev nD) : sProp 𝕄 :=
  iprop(semVal (barCell c) 0 ∗ bigSep Finset.univ (fun k => semVal (sendCell c k) 0) ∗ bigSep Finset.univ (fun k => semVal (recvCell c k) 0)
    ∗ semSpare c ∗ (∃ f, holds c cc0_scratch0 f) ∗ (∃ f, holds c cc0_scratch1 f))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => owed c 0 0
    | ⟨_ + 1, _⟩ => 0

/-! ## Regrouping between the stages -/

/-- What is set aside while the blocks are sent: the rights to wait for the blocks to be received, and the positions of the
    receive and send semaphores. -/
def later (c : Dev nD) : sProp 𝕄 :=
  iprop(bigSep Finset.univ (fun k => iprop(cred (tallyAt (recvCell c k) () N) ∗ atPos ER (recvCell c k) 0 ∅ 0))
    ∗ bigSep Finset.univ (fun k => atPos ER (sendCell c k) 0 ∅ 0))
/-- What is needed for the sends. -/
def forSend (c : Dev nD) : sProp 𝕄 :=
  bigSep Finset.univ (fun k => iprop(dutyTok ER (sendCell c k) 0 0 ∗ dutyTok ER (recvCell (dst c k) k) 0 0 ∗ sendAny c k))
/-- What the body never touches. -/
def aside (c : Dev nD) : sProp 𝕄 := iprop(semSpare c ∗ sendSpare c ∗ recvSpare c)

/-- Everything before the first signal. -/
theorem enter (c : Dev nD) (f : Buf (Elt F) ((c : Thread nD τ).loc cc0_stg2_0)) :
    iprop(ghost m K c ∗ (cred (tallyAt (barCell c) () 7) ∗ bigSep Finset.univ (fun k => cred (tallyAt (recvCell c k) () N)) ∗ levAts L lv)
        ∗ (semSpare c ∗ (∃ f, holds c cc0_scratch0 f) ∗ (∃ f, holds c cc0_scratch1 f))
        ∗ (∃ W, owes (c : Thread nD τ) (owed c 0 0) W)
        ∗ holds c cc0_stg0_0 (xstg m c) ∗ holds c cc0_stg1_0 (wstg m c) ∗ holds c cc0_stg2_0 f)
      ⊢ iprop(known m K ∗ sigSt c 0 ∗ (cred (tallyAt (barCell c) () 7) ∗ atPos ER (barCell c) 0 ∅ 0)
          ∗ holds c cc0_stg0_0 (xstg m c) ∗ (holds c cc0_stg1_0 (wstg m c) ∗ holds c cc0_stg2_0 f) ∗ forSend c ∗ later c ∗ aside c) := by
  unfold ghost
  iintro ⟨⟨#Hrec, HtB, HtS, HtR, HpB, HpS, HpR⟩, ⟨HcB, HcR, #Hlev⟩, ⟨Hsem, Hs0, Hs1⟩, HO, Hx, Hw, Hout⟩
  ihave Hs0 := (send_cut c) $$ Hs0
  icases Hs0 with ⟨Hsend, Hsp0⟩
  ihave Hs1 := (recv_cut c) $$ Hs1
  icases Hs1 with ⟨Hrecv, Hsp1⟩
  ihave Hrecv := (Entails.of_eq (bigSep_univ_equiv (⟨opp, opp, opp_opp, opp_opp⟩ : Fin 7 ≃ Fin 7) (fun k => recvAny (F := F) c k))) $$ Hrecv
  isplitr
  · unfold known; isplitr <;> iassumption
  isplitl [HO HtB Hrecv]
  · unfold sigSt
    rw [left_zero, bigSep_sep']
    isplitl [HO]; · iexact HO
    isplitl [HtB]; · iexact HtB
    iexact Hrecv
  isplitl [HcB HpB]; · isplitl [HcB] <;> iassumption
  isplitl [Hx]; · iexact Hx
  isplitl [Hw Hout]; · isplitl [Hw] <;> iassumption
  isplitl [HtS HtR Hsend]
  · unfold forSend
    rw [bigSep_sep', bigSep_sep']
    isplitl [HtS]; · iexact HtS
    isplitl [HtR] <;> iassumption
  isplitl [HcR HpR HpS]
  · unfold later
    rw [bigSep_sep']
    isplitl [HcR HpR]; · isplitl [HcR] <;> iassumption
    iexact HpS
  unfold aside
  isplitl [Hsem]; · iexact Hsem
  isplitl [Hsp0] <;> iassumption

/-- After the last block is sent, the first is received. -/
theorem to_recv (c : Dev nD) (f : Buf (Elt F) ((c : Thread nD τ).loc cc0_stg2_0)) (X Z A : sProp 𝕄) :
    iprop(known m K ∗ sendSt m c 7 ∗ holds c cc0_stg2_0 (fill m c 1 f) ∗ X ∗ Z ∗ later c ∗ A)
      ⊢ iprop(known m K ∗ recvSt m c f 0 ∗ bigSep Finset.univ (fun k => iprop(cred (tallyAt (sendCell c k) () N) ∗ atPos ER (sendCell c k) 0 ∅ 0))
          ∗ holds c cc0_stg1_0 (wstg m c) ∗ X ∗ Z ∗ A) := by
  unfold sendSt recvSt later
  rw [owed_none, left_zero, gone_zero, gone_seven, bigSep_empty, bigSep_sep' (Φ := fun k => cred (tallyAt (sendCell c k) () N))]
  iintro ⟨#HK, ⟨HO, -, Hcs, Hw⟩, Hout, HX, HZ, ⟨Hr, Hps⟩, HA⟩
  isplitr; · iexact HK
  isplitl [HO Hr Hout]
  · isplitl [HO]; · iexact HO
    isplitl [Hr]; · iexact Hr
    isplitr; · iempintro
    iexact Hout
  isplitl [Hcs Hps]; · isplitl [Hcs] <;> iassumption
  isplitl [Hw]; · iexact Hw
  isplitl [HX]; · iexact HX
  isplitl [HZ] <;> iassumption

/-- After the last block is received, the sends are waited for. -/
theorem to_done (c : Dev nD) (f : Buf (Elt F) ((c : Thread nD τ).loc cc0_stg2_0)) (A : sProp 𝕄) :
    iprop(known m K ∗ recvSt m c f 7 ∗ bigSep Finset.univ (fun k => iprop(cred (tallyAt (sendCell c k) () N) ∗ atPos ER (sendCell c k) 0 ∅ 0)) ∗ A)
      ⊢ iprop(known m K ∗ doneSt c 0 ∗ holds c cc0_stg2_0 (outAt m c)
          ∗ (bigSep Finset.univ (fun k => semVal (recvCell c k) 0) ∗ bigSep Finset.univ (fun k => recvAny c k)) ∗ A) := by
  unfold recvSt doneSt
  rw [left_zero, gone_zero, gone_seven, bigSep_empty, fill_all, bigSep_sep' (Φ := fun k => semVal (recvCell c k) 0)]
  iintro ⟨#HK, ⟨HO, -, Hz, Hout⟩, Hs, HA⟩
  isplitr; · iexact HK
  isplitl [HO Hs]
  · isplitl [HO]; · iexact HO
    isplitl [Hs]; · iexact Hs
    iempintro
  isplitl [Hout]; · iexact Hout
  isplitl [Hz] <;> iassumption

/-- What the body leaves. -/
def endsWith (c : Dev nD) : sProp 𝕄 :=
  iprop(Φ₁ c ∗ (∃ W, owes (c : Thread nD τ) 0 W) ∗ holds c cc0_stg0_0 (xstg m c) ∗ holds c cc0_stg1_0 (wstg m c) ∗ holds c cc0_stg2_0 (outAt m c))

/-- After the last wait. -/
theorem leave (c : Dev nD) :
    iprop(known m K ∗ doneSt c 7 ∗ holds c cc0_stg2_0 (outAt m c)
        ∗ (bigSep Finset.univ (fun k => semVal (recvCell c k) 0) ∗ bigSep Finset.univ (fun k => recvAny c k))
        ∗ holds c cc0_stg1_0 (wstg m c) ∗ holds c cc0_stg0_0 (xstg m c) ∗ semVal (barCell c) 0 ∗ aside c)
      ⊢ endsWith m c := by
  unfold doneSt aside endsWith Φ₁
  rw [gone_seven, bigSep_sep' (Φ := fun k => semVal (sendCell c k) 0)]
  iintro ⟨-, ⟨HO, -, Hzs, Hsend⟩, Hout, ⟨Hzr, Hrecv⟩, Hw, Hx, Hzb, Hsem, Hsp0, Hsp1⟩
  isplitl [Hzs Hsend Hzr Hrecv Hzb Hsem Hsp0 Hsp1]
  · isplitl [Hzb]; · iexact Hzb
    isplitl [Hzs]; · iexact Hzs
    isplitl [Hzr]; · iexact Hzr
    isplitl [Hsem]; · iexact Hsem
    isplitl [Hsend Hsp0]
    · iapply (send_join m c); isplitl [Hsend] <;> iassumption
    iapply (recv_join m c); isplitl [Hrecv] <;> iassumption
  isplitl [HO]; · iexact HO
  isplitl [Hx]; · iexact Hx
  isplitl [Hw] <;> iassumption

/-! ## The body -/

set_option maxHeartbeats 3200000 in
/-- The body's run. -/
theorem run_body (c : Dev nD) (f : Buf (Elt F) ((c : Thread nD τ).loc cc0_stg2_0)) :
    iprop(known m K ∗ sigSt c 0 ∗ (cred (tallyAt (barCell c) () 7) ∗ atPos ER (barCell c) 0 ∅ 0)
        ∗ holds c cc0_stg0_0 (xstg m c) ∗ (holds c cc0_stg1_0 (wstg m c) ∗ holds c cc0_stg2_0 f) ∗ forSend c ∗ later c ∗ aside c)
      ⊢ runs c (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _)
          (Memref.whole cc0_scratch1) (Memref.isWhole_whole _) cc0_scratch2 cc0_scratch3) (fun _ => endsWith m c) := by
  simp only [runs, cc0_body_eq_skeleton, k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton, k0_part16_eq_skeleton, k0_part17_eq_skeleton,
    k0_part18_eq_skeleton, cc0_body_skel, k0_part1_skel, k0_part2_skel, k0_part3_skel, k0_part4_skel, k0_part5_skel, k0_part6_skel, k0_part7_skel,
    k0_part8_skel, k0_part9_skel, k0_part10_skel, k0_part11_skel, k0_part12_skel, k0_part13_skel, k0_part14_skel, k0_part15_skel, k0_part16_skel,
    k0_part17_skel, k0_part18_skel, semSignalWord, semWaitWord, Prog.lift, Prog.bind_op, Prog.bind_ret, Prog.pure_eq_ret, wp_deviceId]
  -- the seven signals, and the barrier
  refine step_signal m K c 0 0 rfl _ (sig1_eq c) _ rfl ?_
  refine step_signal m K c 1 1 rfl _ (sig2_eq c) _ rfl ?_
  refine step_signal m K c 2 2 rfl _ (sig3_eq c) _ rfl ?_
  refine step_signal m K c 3 3 rfl _ (sig4_eq c) _ rfl ?_
  refine step_signal m K c 4 4 rfl _ (sig5_eq c) _ rfl ?_
  refine step_signal m K c 5 5 rfl _ (sig6_eq c) _ rfl ?_
  refine step_signal m K c 6 6 rfl _ (sig7_eq c) _ rfl ?_
  refine (show iprop(known m K ∗ sigSt c 7 ∗ (cred (tallyAt (barCell c) () 7) ∗ atPos ER (barCell c) 0 ∅ 0)
        ∗ holds c cc0_stg0_0 (xstg m c) ∗ (holds c cc0_stg1_0 (wstg m c) ∗ holds c cc0_stg2_0 f) ∗ forSend c ∗ later c ∗ aside c)
      ⊢ iprop(known m K ∗ (sigSt c 7 ∗ cred (tallyAt (barCell c) () 7) ∗ atPos ER (barCell c) 0 ∅ 0)
        ∗ holds c cc0_stg0_0 (xstg m c) ∗ (holds c cc0_stg1_0 (wstg m c) ∗ holds c cc0_stg2_0 f) ∗ forSend c ∗ later c ∗ aside c) from
    sep_mono_right sep_assoc.2).trans ?_
  refine step_barrier m K c _ rfl ?_
  -- the own block
  refine (sep_mono_right sep_left_comm.1).trans ?_
  refine step_x m K c _ ?_
  refine (show iprop(known m K ∗ holds c cc0_stg0_0 (xstg m c)
        ∗ ((∃ W, owes (c : Thread nD τ) (owed c 0 7) W) ∗ semVal (barCell c) 0 ∗ bigSep Finset.univ (fun k => recvAny (dst c k) k))
        ∗ (holds c cc0_stg1_0 (wstg m c) ∗ holds c cc0_stg2_0 f) ∗ forSend c ∗ later c ∗ aside c)
      ⊢ iprop(known m K ∗ (holds c cc0_stg1_0 (wstg m c) ∗ holds c cc0_stg2_0 f)
        ∗ holds c cc0_stg0_0 (xstg m c)
        ∗ ((∃ W, owes (c : Thread nD τ) (owed c 0 7) W) ∗ semVal (barCell c) 0 ∗ bigSep Finset.univ (fun k => recvAny (dst c k) k))
        ∗ forSend c ∗ later c ∗ aside c) by
    iintro ⟨HK, Hx, HB, Hwo, HR⟩
    isplitl [HK]; · iexact HK
    isplitl [Hwo]; · iexact Hwo
    isplitl [Hx]; · iexact Hx
    isplitl [HB] <;> iassumption).trans ?_
  refine step_own m K c f _ (off1_own c) _ _ (k0_off2_eq c) _ _ (fun _ => rfl) fun _ _ => ?_
  -- the seven sends
  refine (show iprop(known m K ∗ (holds c cc0_stg1_0 (wstg m c) ∗ holds c cc0_stg2_0 (fill m c 1 f))
        ∗ holds c cc0_stg0_0 (xstg m c)
        ∗ ((∃ W, owes (c : Thread nD τ) (owed c 0 7) W) ∗ semVal (barCell c) 0 ∗ bigSep Finset.univ (fun k => recvAny (dst c k) k))
        ∗ forSend c ∗ later c ∗ aside c)
      ⊢ iprop(known m K ∗ sendSt m c 0 ∗ holds c cc0_stg2_0 (fill m c 1 f) ∗ holds c cc0_stg0_0 (xstg m c) ∗ semVal (barCell c) 0 ∗ later c ∗ aside c) by
    unfold sendSt forSend
    rw [left_zero, gone_zero, bigSep_empty, bigSep_sep' (Φ := fun k => recvAny (dst c k) k)]
    iintro ⟨HK, ⟨Hw, Hout⟩, Hx, ⟨HO, Hz, Hslots⟩, Hs, HR⟩
    isplitl [HK]; · iexact HK
    isplitl [HO Hslots Hs Hw]
    · isplitl [HO]; · iexact HO
      isplitl [Hslots Hs]; · isplitl [Hslots] <;> iassumption
      isplitr; · iempintro
      iexact Hw
    isplitl [Hout]; · iexact Hout
    isplitl [Hx]; · iexact Hx
    isplitl [Hz] <;> iassumption).trans ?_
  refine step_send m K c 0 0 rfl _ (send1_eq c) _ (off1_dst c 0) _ _ (fun _ => rfl) fun _ _ => ?_
  refine step_send m K c 1 1 rfl _ (send2_eq c) _ (off1_dst c 1) _ _ (fun _ => rfl) fun _ _ => ?_
  refine step_send m K c 2 2 rfl _ (send3_eq c) _ (off1_dst c 2) _ _ (fun _ => rfl) fun _ _ => ?_
  refine step_send m K c 3 3 rfl _ (send4_eq c) _ (off1_dst c 3) _ _ (fun _ => rfl) fun _ _ => ?_
  refine step_send m K c 4 4 rfl _ (send5_eq c) _ (off1_dst c 4) _ _ (fun _ => rfl) fun _ _ => ?_
  refine step_send m K c 5 5 rfl _ (send6_eq c) _ (off1_dst c 5) _ _ (fun _ => rfl) fun _ _ => ?_
  refine step_send m K c 6 6 rfl _ (send7_eq c) _ (off1_dst c 6) _ _ (fun _ => rfl) fun _ _ => ?_
  -- the seven receipts
  refine (to_recv m K c f _ _ _).trans ?_
  refine step_recv m K c f 0 0 rfl _ (off3_src c 0) _ _ (fun _ => rfl) fun _ _ => ?_
  refine step_recv m K c f 1 1 rfl _ (off3_src c 1) _ _ (fun _ => rfl) fun _ _ => ?_
  refine step_recv m K c f 2 2 rfl _ (off3_src c 2) _ _ (fun _ => rfl) fun _ _ => ?_
  refine step_recv m K c f 3 3 rfl _ (off3_src c 3) _ _ (fun _ => rfl) fun _ _ => ?_
  refine step_recv m K c f 4 4 rfl _ (off3_src c 4) _ _ (fun _ => rfl) fun _ _ => ?_
  refine step_recv m K c f 5 5 rfl _ (off3_src c 5) _ _ (fun _ => rfl) fun _ _ => ?_
  refine step_recv m K c f 6 6 rfl _ (off3_src c 6) _ _ (fun _ => rfl) fun _ _ => ?_
  -- the seven waits for the sends
  refine (to_done m K c f _).trans ?_
  refine step_done m K c 0 0 rfl ?_
  refine step_done m K c 1 1 rfl ?_
  refine step_done m K c 2 2 rfl ?_
  refine step_done m K c 3 3 rfl ?_
  refine step_done m K c 4 4 rfl ?_
  refine step_done m K c 5 5 rfl ?_
  refine step_done m K c 6 6 rfl ?_
  refine (leave m K c).trans ?_
  unfold runs
  rw [wp_ret]
  iintro H
  imodintro
  iexact H

end Cert.Exchange
-- ==== Proof.Run.lean ====
/-
# The launch

From any memory with all semaphores at zero, every fair execution of the eight devices' programs ends, with
all semaphores at zero, each device's arguments as they were and its result at the blocks of `outAt`.

The semaphores of all devices are put under the schedule at once; each duty's token goes to the device that pays it.
-/
module

public import proofs.«01_k».proof.Proof.Body
public import Idealize.ShloMosaic.Adequacy
public import Idealize.ShloMosaic.Init
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-- The memory at launch. -/
def s₀ : MemSt nD τ sig (Elt F) := ⟨m, fun _ => 0, ρ⟩

/-! ## The body, as the pipeline calls it -/

/-- Holding a whole buffer, as the pipeline states it. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ holds c b f) := by
  unfold owns; simp only [Memref.view_whole, View.read_whole, View.set_whole]

theorem before_x (c : Dev nD) (d : (cfg0.win 0).block.Idx → Elt F (cfg0.win 0).elt) : (dats m 0 c).before 0 t0_0 d = xstg m c := by
  unfold Dat.before; rw [if_pos (fetch0_0 t0_0)]; rfl
theorem before_w (c : Dev nD) (d : (cfg0.win 1).block.Idx → Elt F (cfg0.win 1).elt) : (dats m 0 c).before 1 t0_0 d = wstg m c := by
  unfold Dat.before; rw [if_pos (fetch0_1 t0_0)]; rfl

/-- The body's run, to any goal that what it leaves gives. -/
theorem run_call (K : Dev nD × CK → ℕ) (c : Dev nD) (f : Buf (Elt F) ((c : Thread nD τ).loc cc0_stg2_0)) (Q : PUnit → sProp 𝕄) (h : endsWith m c ⊢ Q ⟨⟩) :
    iprop(ghost m K c ∗ (cred (tallyAt (barCell c) () 7) ∗ bigSep Finset.univ (fun k => cred (tallyAt (recvCell c k) () N)) ∗ levAts L lv)
        ∗ (semSpare c ∗ (∃ f, holds c cc0_scratch0 f) ∗ (∃ f, holds c cc0_scratch1 f))
        ∗ (∃ W, owes (c : Thread nD τ) (owed c 0 0) W)
        ∗ holds c cc0_stg0_0 (xstg m c) ∗ holds c cc0_stg1_0 (wstg m c) ∗ holds c cc0_stg2_0 f)
      ⊢ wp frame (wpE (defs₀ (F := F)) 𝒱₀ c none) Set.univ (bodyAt0 t0_0) Q :=
  ((enter m K c f).trans (run_body m K c f)).trans (by unfold runs; exact wp_mono _ _ _ (fun _ => h))

set_option maxRecDepth 4000 in
/-- What the pipeline asks of the body. -/
theorem body_obligation (c : Dev nD) : BodyObligation (dats (F := F) m 0 c) (defs₀ (F := F)) 𝒱₀ () Set.univ := fun t => by
  obtain rfl := fin_N0 t
  rw [bigSep_W0, bigSep_W0]
  simp only [owns_whole]
  rw [show (dats m 0 c).Φ t0_0.castSucc = Φ₀ m c from rfl, show (dats m 0 c).Φ t0_0.succ = Φ₁ c from rfl]
  unfold Φ₀ start Dat.owesAt Pipeline.owesWithin
  rw [show (dats m 0 c).owed t0_0.castSucc = owed c 0 0 from rfl, show (dats m 0 c).owed t0_0.succ = 0 from rfl]
  iintro ⟨⟨⟨⟨%K, Hg⟩, Hcr⟩, Hown⟩, ⟨%W, %hW, HO⟩, ⟨%d0, %f0, %h0, Hx⟩, ⟨%d1, %f1, %h1, Hw⟩, ⟨%d2, %f2, %h2, Hout⟩⟩
  rw [before_x] at h0
  rw [before_w] at h1
  subst h0
  subst h1
  iapply (run_call m K c f2 _ ?_)
  · unfold endsWith
    iintro ⟨HΦ, ⟨%W', HO⟩, Hx, Hw, Hout⟩
    isplitl [HΦ]; · iexact HΦ
    isplitl [HO]
    · iexists W'; isplitr; · ipureintro; exact fun _ _ => Or.inl trivial
      iexact HO
    isplitl [Hx]; · iexists _; isplitr; · (ipureintro; rfl)
                    iexact Hx
    isplitl [Hw]; · iexists _; isplitr; · (ipureintro; rfl)
                    iexact Hw
    iexists _; isplitr; · (ipureintro; rfl)
    iexact Hout
  · isplitl [Hg]; · iexact Hg
    isplitl [Hcr]; · iexact Hcr
    isplitl [Hown]; · iexact Hown
    isplitl [HO]; · iexists W; iexact HO
    isplitl [Hx]; · iexact Hx
    isplitl [Hw] <;> iassumption

/-! ## The cells and tokens of the launch -/

/-- The kernel's own semaphores: the two arrays of eight. -/
abbrev osem : Fin 16 → SemLoc sig := fun i => .dma (⟨3 + i.val, by have := i.isLt; show _ < 19; omega⟩ : DmaSem sig)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All cells of the exchange. -/
def allCells : Finset (GSem nD τ sig) := Finset.univ.map ⟨kcell, kcell_injective⟩

/-- A device's duties: for each exchange one of its barrier's, its send cell's and its receive cell's. -/
abbrev tokOf (p : Dev nD × Fin 3 × Fin 7) : GSem nD τ sig × ℕ × Fin 7 := match p.2.1 with
  | 0 => (barCell p.1, 0, p.2.2) | 1 => (sendCell p.1 p.2.2, 0, 0) | 2 => (recvCell p.1 p.2.2, 0, 0)
theorem tokOf_injective : Function.Injective tokOf := by
  rintro ⟨c, i, k⟩ ⟨c', i', k'⟩ h
  have h1 : c = c' := by
    have := congrArg (fun x : GSem nD τ sig × ℕ × Fin 7 => x.1.1.1) h
    fin_cases i <;> fin_cases i' <;> exact this
  subst h1
  have hs : (tokOf (c, i, k)).1.2 = (tokOf (c, i', k')).1.2 := congrArg (fun x : GSem nD τ sig × ℕ × Fin 7 => x.1.2) h
  have hd : (tokOf (c, i, k)).2.2 = (tokOf (c, i', k')).2.2 := congrArg (fun x : GSem nD τ sig × ℕ × Fin 7 => x.2.2) h
  fin_cases i <;> fin_cases i'
  · rw [show k = k' from hd]
  · cases hs
  · cases hs
  · cases hs
  · rw [sendS_inj k k' (SemLoc.dma.inj hs)]
  · exact absurd (SemLoc.dma.inj hs) (send_ne_recv _ _)
  · cases hs
  · exact absurd (SemLoc.dma.inj hs).symm (send_ne_recv _ _)
  · rw [recvS_inj k k' (SemLoc.dma.inj hs)]
/-- All duties of the exchange. -/
def allToks : Finset (GSem nD τ sig × ℕ × Fin 7) := Finset.univ.map ⟨tokOf, tokOf_injective⟩

def u₀ : UU :=
  (initOf (Pipeline.cells cfgs cellOf_inj) (Pipeline.launchToks cfgs cellOf_inj), initOf allCells allToks)

/-- The tokens of the duties at device `c`'s own cells. -/
def ownToks (c : Dev nD) : sProp 𝕄 :=
  iprop(bigSep Finset.univ (fun k => dutyTok ER (barCell c) 0 k) ∗ bigSep Finset.univ (fun k => dutyTok ER (sendCell c k) 0 0)
    ∗ bigSep Finset.univ (fun k => dutyTok ER (recvCell c k) 0 0))
/-- The tokens of the duties that device `c` pays. -/
def payToks (c : Dev nD) : sProp 𝕄 :=
  iprop(bigSep Finset.univ (fun k => dutyTok ER (barCell (dst c k)) 0 (opp k)) ∗ bigSep Finset.univ (fun k => dutyTok ER (sendCell c k) 0 0)
    ∗ bigSep Finset.univ (fun k => dutyTok ER (recvCell (dst c k) k) 0 0))

/-- What device `c` has of the schedule at launch. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ ownToks c)

/-- What it has once all cells are under the schedule. -/
def G' (c : Dev nD) : sProp 𝕄 := iprop((∃ K, ghost m K c) ∗ semSpare c)

theorem bigSep_three (Φ : Fin 3 → sProp 𝕄) : bigSep Finset.univ Φ = iprop(Φ 0 ∗ Φ 1 ∗ Φ 2) := bigSep_univ_eq_bigSepL [0, 1, 2] (by decide) (by decide) Φ
theorem bigSep_bool (Φ : Bool → sProp 𝕄) : bigSep Finset.univ Φ = iprop(Φ false ∗ Φ true) := bigSep_univ_eq_bigSepL [false, true] (by decide) (by decide) Φ

/-- Over the names of a device's cells: the barrier's, the sends' and the receipts'. -/
theorem bigSep_cells (Φ : CK → sProp 𝕄) :
    bigSep Finset.univ Φ = iprop(Φ none ∗ bigSep Finset.univ (fun k => Φ (some (false, k))) ∗ bigSep Finset.univ (fun k => Φ (some (true, k)))) := by
  have h : Finset.univ.erase (none : CK) = Finset.univ.map ⟨some, Option.some_injective _⟩ := by
    ext x; cases x <;> simp
  rw [bigSep_univ_at Φ none, h, bigSep_map, bigSep_univ_prod, bigSep_bool]
  rfl

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_univ_prod, bigSep_three]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

theorem sep_swap (A B C D : sProp 𝕄) : iprop(A ∗ B ∗ C ∗ D) ⊢ iprop(C ∗ D ∗ A ∗ B) := by
  iintro ⟨HA, HB, HC, HD⟩
  isplitl [HC]; · iexact HC
  isplitl [HD]; · iexact HD
  isplitl [HA] <;> iassumption

/-- A device's own semaphores: those of the sends, those of the receipts, and the two that no exchange uses. -/
theorem ownSems0_eq (c : Dev nD) : (Pipeline.ownSems0 (Ix := Unit) (Name := ℕ) (U := UU) (Lvl := ℕ) (Val := Elt F) (τ := τ) osem c : sProp 𝕄)
    = iprop(bigSep Finset.univ (fun k => semVal (sendCell c k) 0) ∗ bigSep Finset.univ (fun k => semVal (recvCell c k) 0) ∗ semSpare c) := by
  have h : (Finset.univ : Finset (Fin 16)) = insert 0 (insert 8 (Finset.univ.map ⟨fun k : Fin 7 => (⟨k.val + 1, by omega⟩ : Fin 16), fun a b h => by ext; simpa using h⟩
      ∪ Finset.univ.map ⟨fun k : Fin 7 => (⟨k.val + 9, by omega⟩ : Fin 16), fun a b h => by ext; simpa using h⟩)) := by decide
  unfold Pipeline.ownSems0
  rw [h, bigSep_insert (by decide), bigSep_insert (by decide), bigSep_union (by decide), bigSep_map, bigSep_map]
  change iprop(semVal _ 0 ∗ semVal _ 0 ∗ bigSep Finset.univ (fun k : Fin 7 => semVal ((c : Thread nD τ), osem ⟨k.val + 1, by omega⟩) 0)
    ∗ bigSep Finset.univ (fun k : Fin 7 => semVal ((c : Thread nD τ), osem ⟨k.val + 9, by omega⟩) 0)) = _
  rw [show (fun k : Fin 7 => (semVal ((c : Thread nD τ), osem ⟨k.val + 1, by omega⟩) 0 : sProp 𝕄)) = fun k => semVal (sendCell c k) 0 from
      funext fun k => by rw [show osem ⟨k.val + 1, by omega⟩ = .dma (sendS k) by revert k; decide],
    show (fun k : Fin 7 => (semVal ((c : Thread nD τ), osem ⟨k.val + 9, by omega⟩) 0 : sProp 𝕄)) = fun k => semVal (recvCell c k) 0 from
      funext fun k => by rw [show osem ⟨k.val + 9, by omega⟩ = .dma (recvS k) by revert k; decide]]
  unfold semSpare
  exact equiv_iff.mp ⟨sep_swap _ _ _ _, sep_swap _ _ _ _⟩

/-- The barrier semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (kcell (c, k)) 0) ∗ semSpare c) : sProp 𝕄) := by
  rw [ownSems0_eq, unscopedSems0_eq, bigSep_cells]
  iintro ⟨⟨HS, HR, Hsp⟩, HB⟩
  isplitl [HB HS HR]
  · isplitl [HB]; · iexact HB
    isplitl [HS]; · iexact HS
    iexact HR
  iexact Hsp

/-- A device's cells are put under the schedule. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ ownToks c ∗ semSpare c) := by
  unfold G
  iintro ⟨Hos, Hus, Hst, Hat, Htok⟩
  ihave Hv := (sems0 (F := F) c) $$ [Hos Hus]
  · isplitl [Hos] <;> iassumption
  icases Hv with ⟨Hv, Hsp⟩
  imod (show iprop((bigSep Finset.univ fun k : CK => semVal (kcell (c, k)) 0) ∗ bigSep Finset.univ fun k : CK => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- What stays with device `c`: its positions, the tokens of the duties it pays, and the two unused semaphores. -/
def linear (c : Dev nD) : sProp 𝕄 :=
  iprop((bigSep Finset.univ fun k : CK => atPos ER (kcell (c, k)) 0 ∅ 0) ∗ payToks c ∗ semSpare c)

theorem ghost_intro (K : Dev nD × CK → ℕ) (c : Dev nD) : iprop(records m K ∗ linear c) ⊢ G' m c := by
  unfold linear payToks G' ghost
  rw [bigSep_cells]
  iintro ⟨#HK, ⟨HaB, HaS, HaR⟩, ⟨HtB, HtS, HtR⟩, Hsp⟩
  isplitl [HaB HaS HaR HtB HtS HtR]
  · iexists K
    isplitr; · iexact HK
    isplitl [HtB]; · iexact HtB
    isplitl [HtS]; · iexact HtS
    isplitl [HtR]; · iexact HtR
    isplitl [HaB]; · iexact HaB
    isplitl [HaS]; · iexact HaS
    iexact HaR
  iexact Hsp

/-- The tokens go to the devices that pay: a barrier's to the device whose signal it is, a receive cell's to the sender. -/
theorem toks_around : (bigSep Finset.univ fun c : Dev nD => (ownToks c : sProp 𝕄)) ⊢ bigSep Finset.univ fun c : Dev nD => payToks c := by
  unfold ownToks payToks
  have hB : (bigSep Finset.univ fun c : Dev nD => bigSep Finset.univ fun k => (dutyTok ER (barCell c) 0 k : sProp 𝕄))
      = bigSep Finset.univ fun c : Dev nD => bigSep Finset.univ fun k => dutyTok ER (barCell (dst c k)) 0 (opp k) := by
    rw [← bigSep_univ_prod (fun p : Dev nD × Fin 7 => (dutyTok ER (barCell p.1) 0 p.2 : sProp 𝕄)), bigSep_univ_equiv backPair,
      ← bigSep_univ_prod (fun p : Dev nD × Fin 7 => (dutyTok ER (barCell (dst p.1 p.2)) 0 (opp p.2) : sProp 𝕄))]
    rfl
  have hR : (bigSep Finset.univ fun c : Dev nD => bigSep Finset.univ fun k => (dutyTok ER (recvCell c k) 0 0 : sProp 𝕄))
      = bigSep Finset.univ fun c : Dev nD => bigSep Finset.univ fun k => dutyTok ER (recvCell (dst c k) k) 0 0 := by
    rw [← bigSep_univ_prod (fun p : Dev nD × Fin 7 => (dutyTok ER (recvCell p.1 p.2) 0 0 : sProp 𝕄)), bigSep_univ_equiv sendPair,
      ← bigSep_univ_prod (fun p : Dev nD × Fin 7 => (dutyTok ER (recvCell (dst p.1 p.2) p.2) 0 0 : sProp 𝕄))]
    rfl
  rw [bigSep_sep', bigSep_sep', bigSep_sep', bigSep_sep', hB, hR]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ ownToks c ∗ semSpare c) : sProp 𝕄)
      ⊢ bigSep Finset.univ (G' m) := by
  rw [bigSep_sep', bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hsp⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; rw [bigSep_sep']; isplitr <;> iassumption
  · unfold linear
    rw [bigSep_sep', bigSep_sep']
    isplitl [Hat]; · iexact Hat
    isplitl [Htk] <;> iassumption

/-- The semaphores of all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The rights to wait -/

abbrev owed₀ (c : Dev nD) : CellTallies nD τ sig Unit := owed c 0 0

/-- What one family of debts gives at a cell. -/
theorem sum_tally (f : Fin 7 → GSem nD τ sig) (n : ℕ) (g : GSem nD τ sig) :
    (∑ k, tallyAt (f k) () n : CellTallies nD τ sig Unit) g () = ∑ k, if g = f k then n else 0 := by
  rw [Finset.sum_apply, Finsupp.finset_sum_apply]
  exact Finset.sum_congr rfl fun k _ => by rw [tallyAt_apply]; simp

theorem bar_eq_iff {a b : Dev nD} : barCell a = barCell b ↔ a = b :=
  ⟨fun h => congrArg (fun g : GSem nD τ sig => g.1.1) h, fun h => h ▸ rfl⟩
theorem recv_eq_iff {a b : Dev nD} {j k : Fin 7} : recvCell a j = recvCell b k ↔ a = b ∧ j = k :=
  ⟨fun h => ⟨congrArg (fun g : GSem nD τ sig => g.1.1) h, recvS_inj j k (SemLoc.dma.inj (congrArg Prod.snd h))⟩, fun h => by rw [h.1, h.2]⟩
theorem bar_ne_recv (a b : Dev nD) (k : Fin 7) : barCell a ≠ recvCell b k := fun h => by cases congrArg Prod.snd h

/-- What all devices owe to the barrier of `c`: seven units. -/
theorem owed_bar (c : Dev nD) : ∑ d : Dev nD, owed₀ d (barCell c) () = 7 := by
  have h (d : Dev nD) : owed₀ d (barCell c) () = ∑ k, if c = dst d k then 1 else 0 := by
    unfold owed₀ owed
    rw [left_zero, Pi.add_apply, Finsupp.add_apply, sum_tally, sum_tally, Finset.sum_eq_zero fun k _ => if_neg (bar_ne_recv _ _ _), zero_add]
    exact Finset.sum_congr rfl fun k _ => by simp only [bar_eq_iff]
  rw [Finset.sum_congr rfl fun d _ => h d]
  clear h
  revert c; decide +kernel

/-- What all devices owe to the receive cell of `c` for exchange `j`: one block. -/
theorem owed_recv (c : Dev nD) (j : Fin 7) : ∑ d : Dev nD, owed₀ d (recvCell c j) () = N := by
  have h (d : Dev nD) : owed₀ d (recvCell c j) () = if d = src c j then N else 0 := by
    unfold owed₀ owed
    rw [left_zero, Pi.add_apply, Finsupp.add_apply, sum_tally, sum_tally, Finset.sum_eq_zero (f := fun k => if recvCell c j = barCell (dst d k) then 1 else 0)
      fun k _ => if_neg (bar_ne_recv _ _ _).symm, add_zero, Finset.sum_eq_single j (fun k _ hk => if_neg fun h' => hk (recv_eq_iff.mp h').2.symm)
      fun h' => absurd (Finset.mem_univ _) h']
    exact if_congr ⟨fun h' => by rw [(recv_eq_iff.mp h').1, src_dst], fun h' => by rw [h', dst_src]⟩ rfl rfl
  rw [Finset.sum_congr rfl fun d _ => h d, Finset.sum_ite_eq' Finset.univ (src c j) fun _ => N, if_pos (Finset.mem_univ _)]

theorem launch_at (g : GSem nD τ sig) (n : ℕ) (h : ∑ d : Dev nD, owed₀ d g () = n) :
    tallyOn g (launchCredit (Pipeline.owing owed₀) 0 g) = (tallyAt g () n : CellTallies nD τ sig Unit) := by
  unfold tallyAt; refine congrArg _ (Finsupp.ext fun u => ?_); cases u
  rw [Pipeline.launchCredit_owing, Finsupp.single_eq_same, h]

theorem creds_cells (c : Dev nD) :
    (Pipeline.launchCred owed₀ c : sProp 𝕄) ⊢ iprop(cred (tallyOn (barCell c) (launchCredit (Pipeline.owing owed₀) 0 (barCell c)))
      ∗ bigSep Finset.univ (fun k => cred (tallyOn (sendCell c k) (launchCredit (Pipeline.owing owed₀) 0 (sendCell c k))))
      ∗ bigSep Finset.univ fun k => cred (tallyOn (recvCell c k) (launchCredit (Pipeline.owing owed₀) 0 (recvCell c k)))) := by
  unfold Pipeline.launchCred
  refine (bigSep_subset (Finset.subset_univ (Finset.univ.map ⟨csem, csem_injective⟩))).trans ?_
  rw [bigSep_map, bigSep_cells]
  exact BI.Entails.refl _

/-- A device may wait for seven units at its barrier and for one block at each receive cell. -/
theorem creds (c : Dev nD) :
    (Pipeline.launchCred owed₀ c : sProp 𝕄) ⊢ iprop(cred (tallyAt (barCell c) () 7) ∗ bigSep Finset.univ fun k => cred (tallyAt (recvCell c k) () N)) := by
  iintro H
  ihave H := (creds_cells c) $$ H
  icases H with ⟨H1, -, H2⟩
  isplitl [H1]
  · iapply (Entails.of_eq (congrArg cred (launch_at (barCell c) _ (owed_bar c)))); iexact H1
  · iapply (Entails.of_eq (bigSep_congr fun k _ => congrArg cred (launch_at (recvCell c k) _ (owed_recv c k)))); iexact H2

/-! ## The run -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop((start m c ∗ semSpare c) ∗ emp) := by
  unfold G' start
  iintro ⟨-, Hlev, Hcr, -, HG, Hsp⟩
  ihave Hc := (creds (F := F) c) $$ Hcr
  icases Hc with ⟨H1, HN⟩
  imodintro
  isplitl
  · isplitl [HG H1 HN Hlev]
    · isplitl [HG]; · iexact HG
      isplitl [H1]; · iexact H1
      isplitl [HN] <;> iassumption
    iexact Hsp
  · iempintro

theorem phi0_intro (c : Dev nD) :
    iprop((start m c ∗ semSpare c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨⟨Hs, Hsp⟩, -, H0, H1⟩
  isplitl [Hs]; · iexact Hs
  isplitl [Hsp]; · iexact Hsp
  isplitl [H0] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁
  iintro ⟨HB, HS, HR, Hsp, H0, H1⟩
  isplitl [HB]; · iexact HB
  isplitl [HS HR Hsp]
  · isplitl [HS]; · iexact HS
    isplitl [HR] <;> iassumption
  isplitl [H0] <;> iassumption

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (by fin_cases w <;> fin_cases s <;> decide) 0 0
    · rw [show (dats m 0 c).owed ⟨_ + 1, ht⟩ = 0 from rfl, MayWait_zero]; iintro -; iempintro

/-- The arrays after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Every fair execution on the eight devices ends, with the arrays at `finalA` and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := fun c => iprop(start m c ∗ semSpare c)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange
-- ==== Proof.Final.lean ====
/-
# What the arrays hold after the run

The arguments are as they were, and each device's result array is `outAt`. The kernel reads and writes whole
arrays: the one block of each window is the array itself.
-/
module

public import proofs.«01_k».proof.Proof.Run

@[expose] public section

noncomputable section

namespace Cert.Exchange

open Cert.KernelIdeal Cert.KernelIdeal.Gen
open Idealize.ShloMosaic Idealize.ShloMosaic.TcCoe
open Idealize.SL Idealize.SL.RA Idealize.SL.BI Idealize.SL.Sem
open Idealize.ShloMosaic.Pipeline (Dat Cfg Window)

variable {F : FTy → Type} [FloatOps F]
variable (m : (ℓ : Loc nD τ sig) → Buf (Elt F) ℓ) (ρ : Dev nD → PrngReg)

/-- The block of `x` that the kernel reads is the array. -/
theorem xstg_eq (c : Dev nD) : xstg m c = m ((c : Thread nD τ).loc main_arg0) :=
  funext fun i => congrArg (m ((c : Thread nD τ).loc main_arg0)) (funext fun a => Fin.ext (by
    match a with
    | ⟨0, _⟩ => exact win0_0.rect_emb_val_of_index_zero (0 : Fin 1) 0 (by decide) i
    | ⟨1, _⟩ => exact win0_0.rect_emb_val_of_index_zero (0 : Fin 1) 1 (by decide) i))
/-- The block of the weights that the kernel reads is the array. -/
theorem wstg_eq (c : Dev nD) : wstg m c = m ((c : Thread nD τ).loc main_arg1) :=
  funext fun i => congrArg (m ((c : Thread nD τ).loc main_arg1)) (funext fun a => Fin.ext (by
    match a with
    | ⟨0, _⟩ => exact win0_1.rect_emb_val_of_index_zero (0 : Fin 1) 0 (by decide) i
    | ⟨1, _⟩ => exact win0_1.rect_emb_val_of_index_zero (0 : Fin 1) 1 (by decide) i))

/-- An entry of the result's block is the entry of the array at the same place. -/
theorem out_emb (i : S2048x256.Idx) : (win0_2.rect (0 : Fin 1)).emb i = i :=
  funext fun a => Fin.ext (by
    match a with
    | ⟨0, _⟩ => exact win0_2.rect_emb_val_of_index_zero (0 : Fin 1) 0 (by decide) i
    | ⟨1, _⟩ => exact win0_2.rect_emb_val_of_index_zero (0 : Fin 1) 1 (by decide) i)

/-- The result array ends at `outAt`. -/
theorem finalA_out (c : Dev nD) : finalA m c 2 = outAt m c :=
  (dats m 0 c).arrAt_eq_of_cover 2 (outAt m c)
    (fun t _ => by
      obtain rfl := fin_N0 t
      have ha : (dats m 0 c).after 2 t0_0 = outAt m c := rfl
      unfold Dat.flushed
      rw [ha]
      funext i
      exact congrArg (outAt m c) (out_emb i).symm)
    (fun i => ⟨t0_0, flush0_2 _, by
      rw [show i = ((cfg0.win 2).blk t0_0).view.emb i from (out_emb i).symm]
      exact View.emb_mem_set _ _⟩)

/-- Every fair execution ends with all semaphores at zero, the arguments as they were and the result at `outAt`. -/
theorem run_final : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨(h.1 c 2).trans (finalA_out m c),
      (h.1 c 0).trans ((dats m 0 c).arrAt_in 0 rfl _), (h.1 c 1).trans ((dats m 0 c).arrAt_in 1 rfl _)⟩, h.2⟩)
    (run_main m ρ)

end Cert.Exchange
-- ==== Proof.Value.lean ====
/-
# The result is the block of columns of the product

With floats read as extended reals, rounding is the identity and a matrix product is the sum of the products.
Each entry of a device's result is then the entry of `max (x · w) 0` at the same row and in that device's columns.
-/
module

public import proofs.«01_k».proof.Proof.Final
public import proofs.«01_k».proof.Proof.Gen.ReferenceIdeal
public import Idealize.ShloMosaic.Lib.Layout
public import Idealize.ShloMosaic.Lib.KernelVsHost
public import Idealize.ShloMosaic.Lib.StackMember
public import Idealize.ShloMosaic.Lib.ValueIdx

@[expose] public section

noncomputable section

namespace Cert.Exchange

open Cert.KernelIdeal Cert.KernelIdeal.Gen
open Idealize.ShloMosaic Idealize.ShloMosaic.TcCoe
open Idealize.SL.Sem
open Idealize.ShloMosaic.ValueIdx Idealize.ShloMosaic.StackMember

/-- The reference's result from whole `x` and `w`. -/
def refOut (x w : FVec Ideal Cert.ReferenceIdeal.S2048x2048 .bf16) : FVec Ideal Cert.ReferenceIdeal.S2048x2048 .bf16 :=
  truncf .bf16 (maximumf (Host.dotGeneral Cert.ReferenceIdeal.dot_S2048x2048_S2048x2048_S2048x2048_1_0_0_1_n_n none x w)
    (broadcastInDim Cert.ReferenceIdeal.S2048x2048 ![] Cert.ReferenceIdeal.Gen.bcast_S_S2048x2048 (constant Cert.ReferenceIdeal.S_ .f32 0x00000000#32)))
    Cert.ReferenceIdeal.Gen.bitsLt_bf16_f32

/-- An entry of the reference's result. -/
theorem refOut_apply (x w : FVec Ideal Cert.ReferenceIdeal.S2048x2048 .bf16) (i : Cert.ReferenceIdeal.S2048x2048.Idx) :
    refOut x w i = max (∑ k : Fin 2048, x (ix2 (n0 := 2048) (i 0) k) * w (ix2 k (n1 := 2048) (i 1))) 0 := by
  unfold refOut
  rw [truncf_apply, maximumf_apply]
  refine congrArg₂ max ?_ ?_
  · exact (congrArg _ (eq_ix2 i)).trans (dotGeneral_plain_apply (n := 2048) none x w (i 0) (i 1))
  · exact Ideal.ofBits_zero_f32

/-- An entry of a block that the kernel computes. -/
theorem block_apply (x : Vec Ideal S256x2048 .bf16) (w : Vec Ideal S2048x256 .bf16) (a b : Fin 256) :
    k0_pay2 (F := Ideal) x w (ix2 a b) = max (∑ k : Fin 2048, x (ix2 a k) * w (ix2 k b)) 0 := by
  unfold k0_pay2 k0_pay1
  rw [truncf_apply, maximumf_apply, shapeCast_self, shapeCast_self, matmul_zero_eq_dotGeneral]
  refine congrArg₂ max ?_ ?_
  · exact dotGeneral_plain_apply none x w a b
  · exact Ideal.ofBits_zero_f32

/-- Column `b` of the `p`-th 256 columns is column `256 p + b`. -/
theorem cols_apply (w : (cc0_stg1_0 : Ref sig .tc).ty.Contents (Elt Ideal)) (p : Dev nD) (k : Fin 2048) (b : Fin 256) (j : Fin 2048)
    (hj : j.val = 256 * p.val + b.val) : cols w p (ix2 k b) = w (ix2 k j) := by
  refine congrArg w (funext fun a => Fin.ext ?_)
  match a with
  | ⟨0, _⟩ =>
    show 0 + 1 * k.val = k.val
    omega
  | ⟨1, _⟩ =>
    show 256 * p.val + 1 * b.val = j.val
    omega

variable (m : (ℓ : Loc nD τ sig) → Buf (Elt Ideal) ℓ)

/-- When each device holds its rows of `x` and all of `w`, its result is its columns of the reference's. -/
theorem outAt_eq (x w : FVec Ideal Cert.ReferenceIdeal.S2048x2048 .bf16)
    (hx : ∀ c : Dev nD, m ((c : Thread nD τ).loc main_arg0) = Layout.block ⟨2, ![256, 2048]⟩ ⟨2, ![2048, 2048]⟩ 0 8 c x)
    (hw : ∀ c : Dev nD, m ((c : Thread nD τ).loc main_arg1) = w) (c : Dev nD) :
    outAt m c = Layout.block ⟨2, ![2048, 256]⟩ ⟨2, ![2048, 2048]⟩ 1 8 c (refOut x w) := by
  funext i
  rw [Layout.block_apply, refOut_apply]
  have hi0 : (i 0).val < 2048 := (i 0).isLt
  refine (block_apply (xstg m (rowDev i)) (cols (wstg m (rowDev i)) c) ⟨(i 0).val % 256, Nat.mod_lt _ (by omega)⟩ (i 1)).trans ?_
  rw [xstg_eq, wstg_eq, hx, hw]
  refine congrArg₂ max (Finset.sum_congr rfl fun k _ => congrArg₂ (· * ·) ?_ ?_) rfl
  · rw [Layout.block_apply]
    refine congrArg x (funext fun a => Fin.ext ?_)
    match a with
    | ⟨0, _⟩ =>
      show (i 0).val / 256 * 256 + (i 0).val % 256 = (i 0).val
      omega
    | ⟨1, _⟩ => rfl
  · refine cols_apply w c k (i 1) _ ?_
    show c.val * 256 + (i 1).val = 256 * c.val + (i 1).val
    omega

end Cert.Exchange
-- ==== Proof.lean ====
/- The claims about this kernel, put together: the runs end, nothing is left pending and the arguments are as they
   were; and, with floats read as extended reals, the devices' results are the blocks of columns of `max (x · w) 0`. -/
module

public import proofs.«01_k».proof.Defs
public import proofs.«01_k».proof.Proof.Value
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem Cert.Exchange

/-- The two texts of the kernel give its body the same meaning: no operation was replaced. -/
theorem bodies_eq : Cert.Kernel.defs₀ (F := Bits) = Cert.KernelIdeal.defs₀ (F := Bits) :=
  congrArg (Defs.onTc (nD := Cert.KernelIdeal.nD) (τ := Cert.KernelIdeal.τ) (sig := Cert.KernelIdeal.sig)
    (Λ := Cert.KernelIdeal.Λ₀)) (funext fun l => by
      match l with
      | 0 => rfl)

/-- So do the two whole programs. -/
theorem defs_eq : Cert.Kernel.defs (F := Bits) = Cert.KernelIdeal.defs (F := Bits) :=
  congrArg (Pipeline.defs (Cert.KernelIdeal.pcfgs (F := Bits))) bodies_eq

/-- The kernel, with floats as bits, ends with its arguments as they were and every semaphore at zero. -/
theorem frame_kernel : Cert.quiescent_Kernel := fun m ρ _ => by
  rw [defs_eq]
  exact (θ_run Cert.KernelIdeal.defs _ _).mono (fun _ h => ⟨fun c => (h.1 c).2, h.2⟩) (run_final (F := Bits) m ρ)

/-- The kernel, with floats as extended reals, ends with its arguments as they were and every semaphore at zero. -/
theorem frame_kernelIdeal : Cert.quiescent_KernelIdeal := fun m ρ _ =>
  (θ_run Cert.KernelIdeal.defs _ _).mono (fun _ h => ⟨fun c => (h.1 c).2, h.2⟩) (run_final (F := Ideal) m ρ)

/-- The reference ends with its arguments as they were; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- No operation of the kernel was replaced. -/
theorem preserves : Cert.preserves_Kernel_KernelIdeal := trivial

/-- Each device ends holding its 256 columns of the reference's result. -/
theorem algebraic : Cert.algebraic_KernelIdeal_ReferenceIdeal := fun m ρ m' ρ' _ hag =>
  ⟨refOut _ _,
    (θ_run Cert.KernelIdeal.defs _ _).mono
      (fun _ h c => ⟨(h.1 c).1.trans (outAt_eq m _ _ (fun d => (hag d).1) (fun d => (hag d).2) c), (h.1 c).2⟩)
      (run_final (F := Ideal) m ρ),
    (θ_run Cert.ReferenceIdeal.defs _ _).mono (fun _ h => h 0) (Cert.ReferenceIdeal.Value.run (F := Ideal) m' ρ')⟩

/-- The five claims. -/
theorem claim : Cert.Claim := ⟨Cert.Kernel.Gen.facts, Cert.KernelIdeal.Gen.facts, Cert.ReferenceIdeal.Gen.facts,
  frame_kernel, frame_kernelIdeal, frame_reference, preserves, algebraic⟩

end Cert.Proof

end
